-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S100000x128 : Shape := ⟨2, ![100000, 128]⟩
abbrev S1024x96 : Shape := ⟨2, ![1024, 96]⟩
abbrev S128x32 : Shape := ⟨2, ![128, 32]⟩
abbrev S32 : Shape := ⟨1, ![32]⟩
abbrev S32x4 : Shape := ⟨2, ![32, 4]⟩
abbrev S4 : Shape := ⟨1, ![4]⟩
abbrev S512x128 : Shape := ⟨2, ![512, 128]⟩
abbrev S128 : Shape := ⟨1, ![128]⟩
abbrev S_ : Shape := ⟨0, ![]⟩

class Facts : Prop where
  bcast_S_S1024x96 : S_.BroadcastsInDim S1024x96 (![] : Fin 0 → Fin S1024x96.rank)
  reducesTo_S1024x96_S_d0_1 : S1024x96.ReducesTo [0, 1] S_
  h_S_ : 0 < S_.numel

variable [Facts]

def fn {F : FTy → Type} [FloatOps F] (main_arg0 : FVec F S100000x128 .f32) (main_arg1 : IVec S1024x96 32) (main_arg2 : FVec F S128x32 .f32) (main_arg3 : FVec F S32 .f32) (main_arg4 : FVec F S32x4 .f32) (main_arg5 : FVec F S4 .f32) (main_arg6 : FVec F S512x128 .f32) (main_arg7 : FVec F S128 .f32) : IVec S_ 1 :=
  let main_c : IVec S_ 32 := constantI S_ 32 0#32
  let main_v0 : IVec S1024x96 32 := broadcastInDim S1024x96 ![] bcast_S_S1024x96 main_c
  let main_v1 : IVec S1024x96 1 := cmpi .sge main_arg1 main_v0
  let main_c_0 : IVec S_ 32 := constantI S_ 32 100000#32
  let main_v2 : IVec S1024x96 32 := broadcastInDim S1024x96 ![] bcast_S_S1024x96 main_c_0
  let main_v3 : IVec S1024x96 1 := cmpi .slt main_arg1 main_v2
  let main_v4 : IVec S1024x96 1 := andi main_v1 main_v3
  let main_c_1 : IVec S_ 1 := constantI S_ 1 1#1
  let main_v5 : IVec S_ 1 := (fun x v => Host.reduce IntOp.andi x v reducesTo_S1024x96_S_d0_1 h_S_) main_v4 main_c_1
  main_v5
-- ==== Kernel.lean ====
abbrev S100000x128 : Shape := ⟨2, ![100000, 128]⟩
abbrev S1024x96 : Shape := ⟨2, ![1024, 96]⟩
abbrev S128x32 : Shape := ⟨2, ![128, 32]⟩
abbrev S32 : Shape := ⟨1, ![32]⟩
abbrev S32x4 : Shape := ⟨2, ![32, 4]⟩
abbrev S4 : Shape := ⟨1, ![4]⟩
abbrev S512x128 : Shape := ⟨2, ![512, 128]⟩
abbrev S128 : Shape := ⟨1, ![128]⟩
abbrev S98304 : Shape := ⟨1, ![98304]⟩
abbrev S768x128 : Shape := ⟨2, ![768, 128]⟩
abbrev S98304x128 : Shape := ⟨2, ![98304, 128]⟩
abbrev S24x128 : Shape := ⟨2, ![24, 128]⟩
abbrev S128x128 : Shape := ⟨2, ![128, 128]⟩
abbrev S_ : Shape := ⟨0, ![]⟩
abbrev S1x128 : Shape := ⟨2, ![1, 128]⟩
abbrev S1024x96x128 : Shape := ⟨3, ![1024, 96, 128]⟩
abbrev S4x128x128 : Shape := ⟨3, ![4, 128, 128]⟩
abbrev S1x32 : Shape := ⟨2, ![1, 32]⟩
abbrev S1x4 : Shape := ⟨2, ![1, 4]⟩
abbrev S1024x128 : Shape := ⟨2, ![1024, 128]⟩
abbrev S32x96x128 : Shape := ⟨3, ![32, 96, 128]⟩
abbrev S32x128 : Shape := ⟨2, ![32, 128]⟩
abbrev S3072x128 : Shape := ⟨2, ![3072, 128]⟩
abbrev S3072x32 : Shape := ⟨2, ![3072, 32]⟩
abbrev S3072x4 : Shape := ⟨2, ![3072, 4]⟩
abbrev S3072 : Shape := ⟨1, ![3072]⟩
abbrev S3072x1 : Shape := ⟨2, ![3072, 1]⟩
abbrev S32x96x4 : Shape := ⟨3, ![32, 96, 4]⟩
abbrev S32x96x1 : Shape := ⟨3, ![32, 96, 1]⟩
abbrev S32x96 : Shape := ⟨2, ![32, 96]⟩
abbrev S1x128x128 : Shape := ⟨3, ![1, 128, 128]⟩

abbrev nBuf : Table → Nat
  | .hbm => 17
  | .local .tc .vmem => 10
  | .local .scVector .vmem => 2
  | _ => 0

abbrev bufTy : (tb : Table) → Fin (nBuf tb) → BufTy
  | .hbm, ⟨0, _⟩ => ⟨S100000x128, .f32⟩
  | .hbm, ⟨1, _⟩ => ⟨S1024x96, .i32⟩
  | .hbm, ⟨2, _⟩ => ⟨S128x32, .f32⟩
  | .hbm, ⟨3, _⟩ => ⟨S32, .f32⟩
  | .hbm, ⟨4, _⟩ => ⟨S32x4, .f32⟩
  | .hbm, ⟨5, _⟩ => ⟨S4, .f32⟩
  | .hbm, ⟨6, _⟩ => ⟨S512x128, .f32⟩
  | .hbm, ⟨7, _⟩ => ⟨S128, .f32⟩
  | .hbm, ⟨8, _⟩ => ⟨S98304, .i32⟩
  | .hbm, ⟨9, _⟩ => ⟨S768x128, .i32⟩
  | .hbm, ⟨10, _⟩ => ⟨S98304x128, .f32⟩
  | .hbm, ⟨11, _⟩ => ⟨S1024x96x128, .f32⟩
  | .hbm, ⟨12, _⟩ => ⟨S4x128x128, .f32⟩
  | .hbm, ⟨13, _⟩ => ⟨S1x32, .f32⟩
  | .hbm, ⟨14, _⟩ => ⟨S1x4, .f32⟩
  | .hbm, ⟨15, _⟩ => ⟨S1x128, .f32⟩
  | .hbm, ⟨16, _⟩ => ⟨S1024x128, .f32⟩
  | .local .tc .vmem, ⟨0, _⟩ => ⟨S32x96x128, .f32⟩
  | .local .tc .vmem, ⟨1, _⟩ => ⟨S32x96x128, .f32⟩
  | .local .tc .vmem, ⟨2, _⟩ => ⟨S128x32, .f32⟩
  | .local .tc .vmem, ⟨3, _⟩ => ⟨S1x32, .f32⟩
  | .local .tc .vmem, ⟨4, _⟩ => ⟨S32x4, .f32⟩
  | .local .tc .vmem, ⟨5, _⟩ => ⟨S1x4, .f32⟩
  | .local .tc .vmem, ⟨6, _⟩ => ⟨S4x128x128, .f32⟩
  | .local .tc .vmem, ⟨7, _⟩ => ⟨S1x128, .f32⟩
  | .local .tc .vmem, ⟨8, _⟩ => ⟨S32x128, .f32⟩
  | .local .tc .vmem, ⟨9, _⟩ => ⟨S32x128, .f32⟩
  | .local .scVector .vmem, ⟨0, _⟩ => ⟨S24x128, .i32⟩
  | .local .scVector .vmem, ⟨1, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg0_scv : Ref sig .scVector := ⟨.hbm, 0, rfl⟩
abbrev main_v1_scv : Ref sig .scVector := ⟨.hbm, 9, rfl⟩
abbrev main_v2_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem7_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_3_r0 : BitVec 32 := 0#32
  ![v2.toNat, 0]
@[reducible] def k0_t1_loop : Scf.Loop 32 :=
  let c0_i32_0 : BitVec 32 := 0#32
  let c24_i32_1 : BitVec 32 := 24#32
  let v3 : BitVec 32 := Scalar.addi c0_i32_0 c24_i32_1
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_3 : BitVec 32 := 0#32
  ![arg8.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v10 : BitVec 32 := Scalar.muli v1 c3072_i32
  let c0_i32_0 : BitVec 32 := 0#32
  let c1_i32 : BitVec 32 := 1#32
  let arg8 : BitVec 32 := Scf.iv c0_i32_0 c1_i32 k0_t1
  let c128_i32 : BitVec 32 := 128#32
  let v11 : BitVec 32 := Scalar.muli arg8 c128_i32
  let v12 : BitVec 32 := Scalar.addi v10 v11
  let c0_i32_9_r1 : BitVec 32 := 0#32
  ![v12.toNat, 0]
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x96x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1024x96 : Shape := ⟨2, ![1024, 96]⟩
abbrev S128x32 : Shape := ⟨2, ![128, 32]⟩
abbrev S32 : Shape := ⟨1, ![32]⟩
abbrev S32x4 : Shape := ⟨2, ![32, 4]⟩
abbrev S4 : Shape := ⟨1, ![4]⟩
abbrev S512x128 : Shape := ⟨2, ![512, 128]⟩
abbrev S128 : Shape := ⟨1, ![128]⟩
abbrev S100000x32 : Shape := ⟨2, ![100000, 32]⟩
abbrev S1x32 : Shape := ⟨2, ![1, 32]⟩
abbrev S_ : Shape := ⟨0, ![]⟩
abbrev S100000x4 : Shape := ⟨2, ![100000, 4]⟩
abbrev S1x4 : Shape := ⟨2, ![1, 4]⟩
abbrev S1024x96x1 : Shape := ⟨3, ![1024, 96, 1]⟩
abbrev S1 : Shape := ⟨1, ![1]⟩
abbrev S1x1x1 : Shape := ⟨3, ![1, 1, 1]⟩
abbrev S1024x96x128 : Shape := ⟨3, ![1024, 96, 128]⟩
abbrev S1024x96x4 : Shape := ⟨3, ![1024, 96, 4]⟩
abbrev S1024x4x128 : Shape := ⟨3, ![1024, 4, 128]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1024x96, .i32⟩
  | .hbm, ⟨2, _⟩ => ⟨S128x32, .f32⟩
  | .hbm, ⟨3, _⟩ => ⟨S32, .f32⟩
  | .hbm, ⟨4, _⟩ => ⟨S32x4, .f32⟩
  | .hbm, ⟨5, _⟩ => ⟨S4, .f32⟩
  | .hbm, ⟨6, _⟩ => ⟨S512x128, .f32⟩
  | .hbm, ⟨7, _⟩ => ⟨S128, .f32⟩
  | .hbm, ⟨8, _⟩ => ⟨S100000x32, .f32⟩
  | .hbm, ⟨9, _⟩ => ⟨S1x32, .f32⟩
  | .hbm, ⟨10, _⟩ => ⟨S100000x32, .f32⟩
  | .hbm, ⟨11, _⟩ => ⟨S100000x32, .f32⟩
  | .hbm, ⟨12, _⟩ => ⟨S100000x32, .f32⟩
  | .hbm, ⟨13, _⟩ => ⟨S100000x32, .f32⟩
  | .hbm, ⟨14, _⟩ => ⟨S_, .f32⟩
  | .hbm, ⟨15, _⟩ => ⟨S100000x32, .f32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S100000x32, .f32⟩
  | .hbm, ⟨20, _⟩ => ⟨S100000x32, .f32⟩
  | .hbm, ⟨21, _⟩ => ⟨S100000x4, .f32⟩
  | .hbm, ⟨22, _⟩ => ⟨S1x4, .f32⟩
  | .hbm, ⟨23, _⟩ => ⟨S100000x4, .f32⟩
  | .hbm, ⟨24, _⟩ => ⟨S100000x4, .f32⟩
  | .hbm, ⟨25, _⟩ => ⟨S_, .i32⟩
  | .hbm, ⟨26, _⟩ => ⟨S1024x96, .i32⟩
  | .hbm, ⟨27, _⟩ => ⟨S1024x96, .i1⟩
  | .hbm, ⟨28, _⟩ => ⟨S_, .i32⟩
  | .hbm, ⟨29, _⟩ => ⟨S1024x96, .i32⟩
  | .hbm, ⟨30, _⟩ => ⟨S1024x96, .i32⟩
  | .hbm, ⟨31, _⟩ => ⟨S1024x96, .i32⟩
  | .hbm, ⟨32, _⟩ => ⟨S1024x96x1, .i32⟩
  | .hbm, ⟨33, _⟩ => ⟨S1, .i32⟩
  | .hbm, ⟨34, _⟩ => ⟨S_, .i32⟩
  | .hbm, ⟨35, _⟩ => ⟨S1024x96x1, .i32⟩
  | .hbm, ⟨36, _⟩ => ⟨S1024x96x1, .i1⟩
  | .hbm, ⟨37, _⟩ => ⟨S1x1x1, .i32⟩
  | .hbm, ⟨38, _⟩ => ⟨S1024x96x1, .i32⟩
  | .hbm, ⟨39, _⟩ => ⟨S1024x96x1, .i1⟩
  | .hbm, ⟨40, _⟩ => ⟨S1024x96x1, .i1⟩
  | .hbm, ⟨41, _⟩ => ⟨S_, .i1⟩
  | .hbm, ⟨42, _⟩ => ⟨S1024x96, .i1⟩
  | .hbm, ⟨43, _⟩ => ⟨S1024x96x128, .f32⟩
  | .hbm, ⟨44, _⟩ => ⟨S1024x96x128, .i1⟩
  | .hbm, ⟨45, _⟩ => ⟨S_, .f32⟩
  | .hbm, ⟨46, _⟩ => ⟨S1024x96x128, .f32⟩
  | .hbm, ⟨47, _⟩ => ⟨S1024x96x128, .f32⟩
  | .hbm, ⟨48, _⟩ => ⟨S_, .i32⟩
  | .hbm, ⟨49, _⟩ => ⟨S1024x96, .i32⟩
  | .hbm, ⟨50, _⟩ => ⟨S1024x96, .i1⟩
  | .hbm, ⟨51, _⟩ => ⟨S_, .i32⟩
  | .hbm, ⟨52, _⟩ => ⟨S1024x96, .i32⟩
  | .hbm, ⟨53, _⟩ => ⟨S1024x96, .i32⟩
  | .hbm, ⟨54, _⟩ => ⟨S1024x96, .i32⟩
  | .hbm, ⟨55, _⟩ => ⟨S1024x96x1, .i32⟩
  | .hbm, ⟨56, _⟩ => ⟨S1, .i32⟩
  | .hbm, ⟨57, _⟩ => ⟨S_, .i32⟩
  | .hbm, ⟨58, _⟩ => ⟨S1024x96x1, .i32⟩
  | .hbm, ⟨59, _⟩ => ⟨S1024x96x1, .i1⟩
  | .hbm, ⟨60, _⟩ => ⟨S1x1x1, .i32⟩
  | .hbm, ⟨61, _⟩ => ⟨S1024x96x1, .i32⟩
  | .hbm, ⟨62, _⟩ => ⟨S1024x96x1, .i1⟩
  | .hbm, ⟨63, _⟩ => ⟨S1024x96x1, .i1⟩
  | .hbm, ⟨64, _⟩ => ⟨S_, .i1⟩
  | .hbm, ⟨65, _⟩ => ⟨S1024x96, .i1⟩
  | .hbm, ⟨66, _⟩ => ⟨S1024x96x4, .f32⟩
  | .hbm, ⟨67, _⟩ => ⟨S1024x96x4, .i1⟩
  | .hbm, ⟨68, _⟩ => ⟨S_, .f32⟩
  | .hbm, ⟨69, _⟩ => ⟨S1024x96x4, .f32⟩
  | .hbm, ⟨70, _⟩ => ⟨S1024x96x4, .f32⟩
  | .hbm, ⟨71, _⟩ => ⟨S_, .f32⟩
  | .hbm, ⟨72, _⟩ => ⟨S1024x96, .f32⟩
  | .hbm, ⟨73, _⟩ => ⟨S_, .f32⟩
  | .hbm, ⟨74, _⟩ => ⟨S1024x96, .f32⟩
  | .hbm, ⟨75, _⟩ => ⟨S1024x96, .f32⟩
  | .hbm, ⟨76, _⟩ => ⟨S1024x96x1, .f32⟩
  | .hbm, ⟨77, _⟩ => ⟨S1024x96x4, .f32⟩
  | .hbm, ⟨78, _⟩ => ⟨S1024x96x4, .f32⟩
  | .hbm, ⟨79, _⟩ => ⟨S1024x96x4, .f32⟩
  | .hbm, ⟨80, _⟩ => ⟨S_, .f32⟩
  | .hbm, ⟨81, _⟩ => ⟨S1024x96, .f32⟩
  | .hbm, ⟨82, _⟩ => ⟨S1024x96x1, .f32⟩
  | .hbm, ⟨83, _⟩ => ⟨S1024x96x4, .f32⟩
  | .hbm, ⟨84, _⟩ => ⟨S1024x96x4, .f32⟩
  | .hbm, ⟨85, _⟩ => ⟨S1024x4x128, .f32⟩
  | .hbm, ⟨86, _⟩ => ⟨S1024x512, .f32⟩
  | .hbm, ⟨87, _⟩ => ⟨S1024x128, .f32⟩
  | .hbm, ⟨88, _⟩ => ⟨S1x128, .f32⟩
  | .hbm, ⟨89, _⟩ => ⟨S1024x128, .f32⟩
  | .hbm, ⟨90, _⟩ => ⟨S1024x128, .f32⟩
  | .hbm, ⟨91, _⟩ => ⟨S1024x128, .f32⟩
  | .hbm, ⟨92, _⟩ => ⟨S1024x128, .f32⟩
  | .hbm, ⟨93, _⟩ => ⟨S_, .f32⟩
  | .hbm, ⟨94, _⟩ => ⟨S1024x128, .f32⟩
  | .hbm, ⟨95, _⟩ => ⟨S1024x128, .f32⟩
  | .hbm, ⟨96, _⟩ => ⟨S_, .f32⟩
  | .hbm, ⟨97, _⟩ => ⟨S1024x128, .f32⟩
  | .hbm, ⟨98, _⟩ => ⟨S1024x128, .f32⟩
  | .hbm, ⟨99, _⟩ => ⟨S1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v15 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v16 : Ref sig .tc := ⟨.hbm, 70, rfl⟩
abbrev main_cst_1 : Ref sig .tc := ⟨.hbm, 71, rfl⟩
abbrev main_v17 : Ref sig .tc := ⟨.hbm, 72, rfl⟩
abbrev main_cst_2 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_cst_4 : Ref sig .tc := ⟨.hbm, 93, rfl⟩
abbrev main_v36 : Ref sig .tc := ⟨.hbm, 94, rfl⟩
abbrev main_v37 : Ref sig .tc := ⟨.hbm, 95, rfl⟩
abbrev main_cst_5 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩

abbrev nD : Nat := 1
abbrev τ : Topo := Topo.v7x

variable {F : FTy → Type} [FloatOps F]
-- ==== Proof.Pre.lean ====
/-
  The precondition read: a table of rows whose every entry passes both comparisons names rows below 100000 only.
-/
module

public import proofs.«01_k».proof.Pre_in_table
public import Idealize.ShloMosaic.Lib.ReduceAll
public import Idealize.ShloMosaic.Lib.WordArith

@[expose] public section

noncomputable section

namespace Cert.Own

open Idealize.ShloMosaic Cert.Pre_in_table

variable {F : FTy → Type} [FloatOps F] [Cert.Pre_in_table.Facts]

/-- Where the precondition holds, every row number lies below the table's length. -/
theorem bound_of_pre (x0 : FVec F S100000x128 .f32) (x1 : IVec S1024x96 32) (x2 : FVec F S128x32 .f32) (x3 : FVec F S32 .f32)
    (x4 : FVec F S32x4 .f32) (x5 : FVec F S4 .f32) (x6 : FVec F S512x128 .f32) (x7 : FVec F S128 .f32)
    (h : fn x0 x1 x2 x3 x4 x5 x6 x7 = fun _ => 1#1) (j : S1024x96.Idx) : (x1 j).toNat < 100000 := by
  have hs : Subsingleton S_.Idx := ⟨fun a b => funext fun i => i.elim0⟩
  have e := Host.reduce_andi_all _ _ _ _ _ (congrFun h (fun i => i.elim0)) j
  have e' : IntOp.andi (IntOp.cmpi .sge (x1 j) 0#32) (IntOp.cmpi .slt (x1 j) 100000#32) = 1#1 := e
  have hb : ((0#32 : BitVec 32).sle (x1 j) && (x1 j).slt 100000#32) = true := by
    revert e'
    simp only [IntOp.cmpi, IntOp.andi]
    cases (0#32 : BitVec 32).sle (x1 j) <;> cases (x1 j).slt 100000#32 <;> decide
  rw [Bool.and_eq_true] at hb
  exact WordArith.toNat_lt_of_zero_sle_of_slt_ofNat (x1 j) 100000 (by decide) hb.1 hb.2

end Cert.Own

end
-- ==== Proof.ITile.lean ====
/-
  The gather kernel on one vector subcore.

  The kernel copies rows of a table: the index table `ix` (768 rows of 128 words) is dealt to 32 workers, 24 rows each;
  a worker fetches its 24 index rows once, and for each of them gathers the 128 table rows that it names into a scratch
  buffer and copies the scratch buffer to a block of 128 rows of the output. Output row `r` thus becomes row
  `ix[r / 128, r % 128]` of the table (`gath`).

  The worker's run is proved once, at a symbolic pair of SparseCore and subcore (`tile_body`): from a read share of the
  table and of the index table and the worker's 24 output blocks at any contents, to the same shares and the blocks at
  `gath`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.ValueKit.Geometry
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and unscoped, no scoped buffer is shared, no sequencer kernel runs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The kernel runs on 16 subcores of a SparseCore. -/
theorem nSub_zero : (K (F := F)).nSub 0 = 16 := rfl
/-- The kernel runs on two SparseCores. -/
theorem nCore_zero : (K (F := F)).nCore 0 = 2 := rfl

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev aLoc (d : Dev nD) : Loc nD τ sig := (SparseCore.T d).loc main_arg0
abbrev iLoc (d : Dev nD) : Loc nD τ sig := (SparseCore.T d).loc main_v1
abbrev oLoc (d : Dev nD) : Loc nD τ sig := (SparseCore.T d).loc main_v2

local notation "aV" => (Memref.whole main_arg0_scv : Memref sig Kind.scVector Space.hbm S100000x128 EltTy.f32)
local notation "iV" => (Memref.whole main_v1_scv : Memref sig Kind.scVector Space.hbm S768x128 EltTy.i32)
local notation "oV" => (Memref.whole main_v2_scv : Memref sig Kind.scVector Space.hbm S98304x128 EltTy.f32)
local notation "sV" => (Memref.whole cc0_scratch0 : Memref sig Kind.scVector Space.vmem S24x128 EltTy.i32)
local notation "rV" => (Memref.whole cc0_scratch1 : Memref sig Kind.scVector Space.vmem S128x128 EltTy.f32)

/-- The table row that a word names (the last row for a word beyond the table; no such word occurs). -/
def clip (w : BitVec 32) : Fin 100000 := ⟨min w.toNat 99999, by omega⟩

/-- The gathered array: row `r` is the table's row named by word `(r / 128, r % 128)` of the index table. -/
def gath (tab : S100000x128.Idx → Elt F .f32) (ix : S768x128.Idx → Elt F .i32) : S98304x128.Idx → Elt F .f32 :=
  fun r => tab (ix2 (clip (ix (ix2 (⟨(r 0).val / 128, by have h : (r 0).val < 98304 := (r 0).isLt; omega⟩ : Fin 768) (⟨(r 0).val % 128, Nat.mod_lt _ (by decide)⟩ : Fin 128)))) (r 1))

/-! ## The output's blocks -/

/-- The output's rows divide into 768 blocks. -/
theorem odiv : 768 ∣ S98304x128.size 0 := ⟨128, rfl⟩
abbrev blk (b : Fin 768) : Rect S98304x128 := Rect.part (s := S98304x128) (a₀ := 0) odiv b
/-- The elements of block `b` of the output: its rows `128 b` to `128 b + 127`. -/
abbrev blkSet (b : Fin 768) : Finset S98304x128.Idx := ((oV).view.slice (blk b)).set

/-- Worker `2 s + c`: subcore `s` of SparseCore `c`. -/
def wk (c : Fin 2) (s : Fin 16) : Fin 32 := finProdFinEquiv (s, c)
/-- Block `24 w + t`: the one worker `w` writes in trip `t`. -/
def bk (w : Fin 32) (t : Fin 24) : Fin 768 := finProdFinEquiv (w, t)

/-- A worker's number. -/
theorem wk_val (c : Fin 2) (s : Fin 16) : (wk c s).val = c.val + 2 * s.val := rfl
/-- A block's number. -/
theorem bk_val (w : Fin 32) (t : Fin 24) : (bk w t).val = t.val + 24 * w.val := rfl

/-- Worker `w`'s read share of the two tables. -/
def shr (w : Fin 32) : PosShare TreeShare := Transfers.dealOf fullShare Finset.univ w

variable [FloatOps F]

/-! ## What one worker holds -/

/-- Worker `w`'s resources: a share of the table and of the index table, and its 24 output blocks at `f`. -/
abbrev work (d : Dev nD) (tab : Buf (Elt F) (aLoc d)) (ix : Buf (Elt F) (iLoc d)) (f : Buf (Elt F) (oLoc d)) (w : Fin 32) : sProp 𝕄 :=
  iprop((aLoc d ↦{shr w} tab) ∗ (iLoc d ↦{shr w} ix) ∗ bigSep Finset.univ fun t : Fin 24 => oLoc d ↦[blkSet (bk w t)]{fullShare} f)

section Tile

variable (d : Dev nD) (L : grid0.Coords)

abbrev cV (L : grid0.Coords) : Fin τ.nSC := (L 0).castLE hcore0
abbrev jV (L : grid0.Coords) : Fin τ.nSub := (L 1).castLE hsub0
/-- The grid has two SparseCores. -/
theorem bound_zero : grid0.bound 0 = 2 := rfl
/-- The grid has 16 subcores of each. -/
theorem bound_one : grid0.bound 1 = 16 := rfl
/-- The worker at grid coordinates `L`. -/
abbrev wL (L : grid0.Coords) : Fin 32 := wk (Fin.cast bound_zero (L 0)) (Fin.cast bound_one (L 1))

/-- The loop makes 24 trips. -/
theorem trips_eq : k0_t1_loop.trips = 24 := by decide

abbrev irowK (L : grid0.Coords) : Rect S768x128 := Rect.unit (s := S768x128) (k0_off1 L) S24x128.size (k0_off1_inb L)
abbrev orowK (L : grid0.Coords) (t : Fin k0_t1_loop.trips) : Rect S98304x128 := Rect.unit (s := S98304x128) (k0_off3 L t) S128x128.size (k0_off3_inb L t)
/-- The worker's rows of the index table, and its block of the output in trip `t`, as the kernel addresses them. -/
abbrev iK (L : grid0.Coords) : Memref sig .scVector .hbm S24x128 .i32 := (iV).slice (irowK L) (fun _ => rfl)
abbrev oK (L : grid0.Coords) (t : Fin k0_t1_loop.trips) : Memref sig .scVector .hbm S128x128 .f32 := (oV).slice (orowK L t) (fun _ => rfl)
/-- The table, as the gather addresses it. -/
abbrev aK : Memref sig .scVector .hbm S100000x128 .f32 :=
  (aV).slice (Rect.unit (s := S100000x128) ![0, 0] S100000x128.size inb_S100000x128_S100000x128_0_0) (fun _ => rfl)
/-- Row `t` of the fetched index rows, as the kernel addresses it. -/
abbrev lK (t : Fin k0_t1_loop.trips) : Memref sig .scVector .vmem S128 .i32 :=
  ((sV).slice (Rect.unit (s := S24x128) (k0_off2 t) S1x128.size (k0_off2_inb t)) (fun _ => rfl)).squeeze S128 squeezes_S1x128_S128

/-- The kernel's rectangle in trip `t` is the worker's block `t`. -/
theorem orowK_eq (t : Fin k0_t1_loop.trips) : orowK L t = blk (bk (wL L) (Fin.cast trips_eq t)) := by
  unfold orowK blk Rect.part Rect.block
  congr 1 <;> funext a
  · rw [k0_off3_eq]
    match a with
    | 0 => simp [Shape.partIx, Shape.partSize, bk_val, wk_val]; show _ = (t.val + 24 * ((L 0).val + 2 * (L 1).val)) * 128; omega
    | 1 => simp [Shape.partIx, Shape.partSize]
  · match a with
    | 0 => simp [Shape.partSize]
    | 1 => simp [Shape.partSize]

/-- The elements that the kernel writes in trip `t` are those of the worker's block `t`. -/
theorem set_oK (t : Fin k0_t1_loop.trips) : (oK L t).view.set = blkSet (bk (wL L) (Fin.cast trips_eq t)) := by
  show ((oV).view.slice (orowK L t)).set = _
  rw [orowK_eq]

/-- Holding the block as the kernel addresses it is holding the block. -/
theorem pts_oK (t : Fin k0_t1_loop.trips) (f : Buf (Elt F) (oLoc d)) :
    ((oK L t).view.loc (V d (cV L) (jV L)) ↦[(oK L t).view.set]{fullShare} f : sProp 𝕄) = oLoc d ↦[blkSet (bk (wL L) (Fin.cast trips_eq t))]{fullShare} f := by
  rw [set_oK]
/-- Holding the table as a subcore names it is holding the table. -/
theorem pts_aV (q : PosShare TreeShare) (f : Buf (Elt F) (aLoc d)) :
    ((aV).view.loc (V d (cV L) (jV L)) ↦{q} f : sProp 𝕄) = aLoc d ↦{q} f := rfl
/-- The same of the index table. -/
theorem pts_iV (q : PosShare TreeShare) (f : Buf (Elt F) (iLoc d)) :
    ((iV).view.loc (V d (cV L) (jV L)) ↦{q} f : sProp 𝕄) = iLoc d ↦{q} f := rfl
/-- The same of the scratch buffer of index rows. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
/-- The same of the scratch buffer of gathered rows. -/
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The gather's semaphore, the index fetch's and the write-out's. -/
abbrev gcell (d : Dev nD) (c : Fin τ.nSC) (i : Fin τ.nSub) : GSem nD τ sig := (V d c i, .dma cc0_scratch2.sem)
abbrev fcell (d : Dev nD) (c : Fin τ.nSC) (i : Fin τ.nSub) : GSem nD τ sig := (V d c i, .dma cc0_scoped0.sem)
abbrev wcell (d : Dev nD) (c : Fin τ.nSC) (i : Fin τ.nSub) : GSem nD τ sig := (V d c i, .dma cc0_scoped1.sem)

/-- The subcore's own semaphores at zero: the kernel's three and the others. -/
theorem ownSems0_V :
    (ownSems0 (V d (cV L) (jV L)) : sProp 𝕄)
      = iprop(semVal (gcell d (cV L) (jV L)) 0 ∗ semVal (fcell d (cV L) (jV L)) 0 ∗ semVal (wcell d (cV L) (jV L)) 0
          ∗ bigSep ((((ownCells (V d (cV L) (jV L))).erase (gcell d (cV L) (jV L))).erase (fcell d (cV L) (jV L))).erase (wcell d (cV L) (jV L))) fun g => semVal g 0) := by
  unfold SparseCore.Cfg.ownSems0
  rw [SparseCore.bigSep_erase' ((mem_ownCells (g := gcell d (cV L) (jV L))).mpr ⟨rfl, by
      show (SemLoc.dma cc0_scratch2.sem : SemLoc sig).isScoped .scVector = true; decide⟩),
    SparseCore.bigSep_erase' (Finset.mem_erase.mpr ⟨by simp [gcell, fcell]; decide, (mem_ownCells (g := fcell d (cV L) (jV L))).mpr ⟨rfl, by
      show (SemLoc.dma cc0_scoped0.sem : SemLoc sig).isScoped .scVector = true; decide⟩⟩),
    SparseCore.bigSep_erase' (Finset.mem_erase.mpr ⟨by simp [fcell, wcell]; decide, Finset.mem_erase.mpr ⟨by simp [gcell, wcell]; decide,
      (mem_ownCells (g := wcell d (cV L) (jV L))).mpr ⟨rfl, by show (SemLoc.dma cc0_scoped1.sem : SemLoc sig).isScoped .scVector = true; decide⟩⟩⟩)]

/-- The subcore's own buffers at any contents: the two scratch buffers and the others. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The index rows, the gathered rows -/

/-- The worker's 24 rows of the index table. -/
def fidx (ix : S768x128.Idx → Elt F .i32) (w : Fin 32) : S24x128.Idx → Elt F .i32 :=
  fun j => ix (ix2 (⟨24 * w.val + (j 0).val, by have h : (j 0).val < 24 := (j 0).isLt; have := w.isLt; omega⟩ : Fin 768) (j 1))

/-- What the kernel fetches of the index table is the worker's 24 rows. -/
theorem read_iK (ix : Buf (Elt F) (iLoc d)) : (iK L).view.read (Elt F) ix = fidx ix (wL L) := by
  funext j
  refine (View.read_apply _ _).trans ((cast_eq _ _).trans ?_)
  unfold fidx
  congr 1
  funext a
  apply Fin.ext
  refine (ValueKit.view_emb_slice_whole_unit_val main_v1_scv (k0_off1 L) _ (k0_off1_inb L) j a).trans ?_
  refine (congrArg (· + (j a).val) (congrFun (k0_off1_eq L) a)).trans ?_
  match a with
  | 0 => show 48 * (L 1).val + 24 * (L 0).val + (j 0).val = 24 * ((L 0).val + 2 * (L 1).val) + (j 0).val; omega
  | 1 => show 0 + (j 1).val = (j 1).val; omega

/-- Element `x` of the index row of trip `t` is element `(t, x)` of the fetched rows. -/
theorem emb_lK (t : Fin k0_t1_loop.trips) (x : S128.Idx) :
    (lK t).view.emb x = (ix2 (Fin.cast trips_eq t) (x 0) : S24x128.Idx) := by
  have e : Shape.reshapeEquiv (squeezes_S1x128_S128.numel_eq) x = (ix2 (0 : Fin 1) (x 0) : S1x128.Idx) := by
    apply S1x128.rowMajor.injective
    apply Fin.ext
    rw [Shape.rowMajor_reshapeEquiv, Shape.rowMajor_val_one, Shape.rowMajor_val_two]
    show (x 0).val = 0 * 128 + (x 0).val
    omega
  show ((sV).view.slice (Rect.unit (s := S24x128) (k0_off2 t) S1x128.size (k0_off2_inb t))).emb
    (Shape.reshapeEquiv (squeezes_S1x128_S128.numel_eq) x) = _
  rw [e]
  funext a
  apply Fin.ext
  refine (ValueKit.view_emb_slice_whole_unit_val cc0_scratch0 (k0_off2 t) _ (k0_off2_inb t) _ a).trans ?_
  refine (congrArg (· + _) (congrFun (k0_off2_eq t) a)).trans ?_
  match a with
  | 0 => show t.val + 0 = t.val; omega
  | 1 => show 0 + (x 0).val = (x 0).val; omega

/-- The index row of trip `t` reads as row `t` of the fetched rows. -/
theorem read_lK (t : Fin k0_t1_loop.trips) (f : S24x128.Idx → Elt F .i32) (x : S128.Idx) :
    (lK t).view.read (Elt F) f x = f (ix2 (Fin.cast trips_eq t) (x 0)) := by
  refine (View.read_apply _ _).trans ((cast_eq _ _).trans ?_)
  exact congrArg f (emb_lK t x)

/-- The rows gathered in trip `k`: row `r` is the table row named by word `r` of the worker's index row `k`. -/
theorem gathered (tab : S100000x128.Idx → Elt F .f32) (g : S24x128.Idx → Elt F .i32) (k : Fin k0_t1_loop.trips)
    (hn : S128.numel = S128x128.size (gathers_S100000x128_S128x128).axis')
    (hin : ∀ x, ((lK k).view.read (Elt F) g x : BitVec 32).toNat < S100000x128.size (gathers_S100000x128_S128x128).axis) (x : S128x128.Idx) :
    SparseCore.gatherPayload gathers_S100000x128_S128x128
        ((aK).view.read (Elt F) tab)
        (SparseCore.rows ((lK k).view.read (Elt F) g) hn hin) x
      = tab (ix2 (clip (g (ix2 (Fin.cast trips_eq k) (x 0)))) (x 1)) := by
  show (aK).view.read (Elt F) tab (Shape.Gathers.idx _ _ x) = _
  refine (View.read_apply _ _).trans ((cast_eq _ _).trans (congrArg tab ?_))
  funext a
  apply Fin.ext
  refine (ValueKit.view_emb_slice_whole_unit_val main_arg0_scv ![0, 0] _ inb_S100000x128_S100000x128_0_0 _ a).trans ?_
  match a with
  | 0 =>
    have h := congrArg Fin.val (Shape.Gathers.idx_axis gathers_S100000x128_S128x128 (SparseCore.rows ((lK k).view.read (Elt F) g) hn hin) x)
    refine (Nat.zero_add _).trans (h.trans ?_)
    have hr : (SparseCore.rows ((lK k).view.read (Elt F) g) hn hin (x 0)).val = ((g (ix2 (Fin.cast trips_eq k) (x 0)) : BitVec 32)).toNat := by
      show ((lK k).view.read (Elt F) g (S128.rowMajor.symm ((x 0).cast hn.symm)) : BitVec 32).toNat = _
      rw [read_lK]
      congr 3
      have : (S128.rowMajor (S128.rowMajor.symm ((x 0).cast hn.symm))).val = ((S128.rowMajor.symm ((x 0).cast hn.symm)) 0).val := Shape.rowMajor_val_one _
      rw [Equiv.apply_symm_apply] at this
      exact Fin.ext this.symm
    refine hr.trans ?_
    have hlt := hin (ix1 (x 0))
    rw [read_lK] at hlt
    exact (Nat.min_eq_left (Nat.le_of_lt_succ hlt)).symm
  | 1 =>
    exact (Nat.zero_add _).trans (Shape.Gathers.idx_of_ne gathers_S100000x128_S128x128 _ x 1 (by decide))

/-- A block written with such rows is a block of the gathered array. -/
theorem block_val (tab : Buf (Elt F) (aLoc d)) (ix : Buf (Elt F) (iLoc d)) (f : Buf (Elt F) (oLoc d)) (k : Fin k0_t1_loop.trips)
    (w : S128x128.Idx → Elt F .f32) (hw : ∀ x, w x = tab (ix2 (clip (fidx ix (wL L) (ix2 (Fin.cast trips_eq k) (x 0)))) (x 1)))
    (i : S98304x128.Idx) (hi : i ∈ (oK L k).view.set) :
    (oK L k).view.writes (Elt F) f [⟨Rect.whole S128x128, w⟩] i = gath tab ix i := by
  obtain ⟨x, -, rfl⟩ := Finset.mem_map.mp hi
  have e := congrFun (View.read_writes_whole (oK L k).view f w) x
  refine (((View.read_apply _ _).trans (cast_eq _ _)).symm.trans e).trans ?_
  rw [hw]
  have h0 : ((oK L k).view.emb x 0 : Fin _).val = 128 * (bk (wL L) (Fin.cast trips_eq k)).val + (x 0).val := by
    refine (ValueKit.view_emb_slice_whole_unit_val main_v2_scv (k0_off3 L k) _ (k0_off3_inb L k) x 0).trans ?_
    refine (congrArg (· + _) (congrFun (k0_off3_eq L k) 0)).trans ?_
    show 6144 * (L 1).val + 3072 * (L 0).val + 128 * k.val + (x 0).val = 128 * (k.val + 24 * ((L 0).val + 2 * (L 1).val)) + (x 0).val
    omega
  have h1 : ((oK L k).view.emb x 1 : Fin _).val = (x 1).val := by
    refine (ValueKit.view_emb_slice_whole_unit_val main_v2_scv (k0_off3 L k) _ (k0_off3_inb L k) x 1).trans ?_
    refine (congrArg (· + _) (congrFun (k0_off3_eq L k) 1)).trans ?_
    exact Nat.zero_add _
  have hx : (x 0).val < 128 := (x 0).isLt
  have hb := bk_val (wL L) (Fin.cast trips_eq k)
  show _ = tab (ix2 (clip (ix (ix2 _ _))) _)
  refine congrArg tab ?_
  refine congrArg₂ ix2 (congrArg clip (congrArg ix (congrArg₂ ix2 (Fin.ext ?_) (Fin.ext ?_)))) (Fin.ext h1.symm)
  · show 24 * (wL L).val + k.val = ((oK L k).view.emb x 0 : Fin _).val / 128
    rw [h0, hb]
    show _ = (128 * (k.val + 24 * (wL L).val) + (x 0).val) / 128
    omega
  · show (x 0).val = ((oK L k).view.emb x 0 : Fin _).val % 128
    rw [h0]
    omega

/-! ## The worker's run -/

/-- Before trip `k`: the first `k` blocks are gathered. -/
def inv (d : Dev nD) (L : grid0.Coords) (tab : Buf (Elt F) (aLoc d)) (ix : Buf (Elt F) (iLoc d)) (f : Buf (Elt F) (oLoc d))
    (O : CellTallies nD τ sig (HIx 1)) (W : Waits sig (HIx 1)) (k : ℕ) (_ : Unit) : sProp 𝕄 :=
  iprop(Transfers.MayWaits (V d (cV L) (jV L)) (none : HIx 1) O
    ∗ ((aV).view.loc (V d (cV L) (jV L)) ↦{shr (wL L)} tab)
    ∗ ((sV).view.loc (V d (cV L) (jV L)) ↦{fullShare} fidx ix (wL L))
    ∗ (∃ fr, (rV).view.loc (V d (cV L) (jV L)) ↦{fullShare} fr)
    ∗ semVal (gcell d (cV L) (jV L)) 0 ∗ semVal (wcell d (cV L) (jV L)) 0
    ∗ (bigSep Finset.univ fun t : Fin 24 => oLoc d ↦[blkSet (bk (wL L) t)]{fullShare} if t.val < k then gath tab ix else f)
    ∗ ∃ W', ⌜∀ p ∈ W', p ∈ W ∨ p.2 = none⌝ ∗ owes (V d (cV L) (jV L)) O W')

/-- Block `k` taken out of the worker's blocks before trip `k`, at its old contents, -/
theorem blocks_out (k : Fin 24) (n : ℕ) (hn : n = k.val) (w : Fin 32) (g f : Buf (Elt F) (oLoc d)) :
    (bigSep Finset.univ fun t : Fin 24 => (oLoc d ↦[blkSet (bk w t)]{fullShare} if t.val < n then g else f : sProp 𝕄))
      = iprop((oLoc d ↦[blkSet (bk w k)]{fullShare} f)
          ∗ bigSep (Finset.univ.erase k) fun t => oLoc d ↦[blkSet (bk w t)]{fullShare} if t.val < n then g else f) := by
  rw [SparseCore.bigSep_erase' (Finset.mem_univ k), if_neg (hn ▸ Nat.lt_irrefl _)]
/-- and put back at its new contents: the worker's blocks before trip `k + 1`. -/
theorem blocks_in (k : Fin 24) (n : ℕ) (hn : n = k.val) (w : Fin 32) (g f : Buf (Elt F) (oLoc d)) :
    (bigSep Finset.univ fun t : Fin 24 => (oLoc d ↦[blkSet (bk w t)]{fullShare} if t.val < n + 1 then g else f : sProp 𝕄))
      = iprop((oLoc d ↦[blkSet (bk w k)]{fullShare} g)
          ∗ bigSep (Finset.univ.erase k) fun t => oLoc d ↦[blkSet (bk w t)]{fullShare} if t.val < n then g else f) := by
  have h : ∀ t ∈ Finset.univ.erase k, (oLoc d ↦[blkSet (bk w t)]{fullShare} if t.val < n + 1 then g else f : sProp 𝕄)
      = oLoc d ↦[blkSet (bk w t)]{fullShare} if t.val < n then g else f := by
    intro t ht
    have : t.val ≠ k.val := fun e => (Finset.mem_erase.mp ht).1 (Fin.ext e)
    by_cases h : t.val < n
    · rw [if_pos h, if_pos (Nat.lt_succ_of_lt h)]
    · rw [if_neg h, if_neg (by omega)]
  rw [SparseCore.bigSep_erase' (Finset.mem_univ k), if_pos (hn ▸ Nat.lt_succ_self _), BI.bigSep_congr h]

/-- After the last trip every block is at its new contents. -/
theorem blocks_done (w : Fin 32) (g f : Buf (Elt F) (oLoc d)) :
    (bigSep Finset.univ fun t : Fin 24 => (oLoc d ↦[blkSet (bk w t)]{fullShare} if t.val < k0_t1_loop.trips then g else f : sProp 𝕄))
      = bigSep Finset.univ fun t : Fin 24 => oLoc d ↦[blkSet (bk w t)]{fullShare} g :=
  BI.bigSep_congr fun t _ => by rw [if_pos (lt_of_lt_of_eq t.isLt trips_eq.symm)]

/-- One worker's run. -/
theorem tile_body (hF : (K (F := F)).Facts) (tab : Buf (Elt F) (aLoc d)) (ix : Buf (Elt F) (iLoc d)) (f : Buf (Elt F) (oLoc d))
    (hix : ∀ j, ((ix : S768x128.Idx → BitVec 32) j).toNat < 100000)
    (O : CellTallies nD τ sig (HIx 1)) (W : Waits sig (HIx 1)) (hO : ∀ g, O g none = 0) :
    iprop(levAts (K (F := F)).L (K (F := F)).lev ∗ emp ∗ work d tab ix f (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L aV (Memref.isWhole_whole _) iV (Memref.isWhole_whole _) oV (Memref.isWhole_whole _)
            sV (Memref.isWhole_whole _) rV (Memref.isWhole_whole _) cc0_scratch2 cc0_scoped0 cc0_scoped1)
          fun _ => iprop(work d tab ix (gath tab ix) (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Ha, Hi, Ho⟩, ⟨⟨%fs, Hs⟩, ⟨%fr, Hr⟩, Hbufs⟩, ⟨Hg, Hf, Hw, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (pts_aV (F := F) d L _ _).symm) $$ Ha
  ihave Hi' := (Entails.of_eq (pts_iV (F := F) d L _ _).symm) $$ Hi
  ihave Hs' := (Entails.of_eq (pts_sV (F := F) d L _).symm) $$ Hs
  ihave Hr' := (Entails.of_eq (pts_rV (F := F) d L _).symm) $$ Hr
  sl_exec
  have hs0 : View.write (Elt F) (sV).view fs (tile_body.sl.dma0 d L ix) Finset.univ = fidx ix (wL L) := by
    refine (View.write_whole_univ _ _ _).trans ?_
    exact read_iK d L ix
  rw [hs0]
  sl_for (inv d L tab ix f O W) $$ [Hmw Ha' Hs' Hr' Hg Hw Ho HO]
  case region =>
    intro k _
    unfold inv
    iintro ⟨Hmw, Ha, Hs, ⟨%fr, Hr⟩, Hg, Hw, Ho, %W', %hW', HO⟩
    ihave Ho' := (Entails.of_eq (blocks_out d (Fin.cast trips_eq k) k.val rfl (wL L) (gath tab ix) f)) $$ Ho
    icases Ho' with ⟨Hb, Hrest⟩
    ihave Hb' := (Entails.of_eq (pts_oK (F := F) d L k _).symm) $$ Hb
    have hin : ∀ x, ((lK k).view.read (Elt F) (fidx ix (wL L)) x : BitVec 32).toNat < S100000x128.size (gathers_S100000x128_S128x128).axis := by
      intro x; rw [read_lK]; exact hix _
    sl_exec
    sl_step
    isplitl [Hmw]; · iexact Hmw
    isplitl [Ha]; · iexact Ha
    isplitl [Hs]; · iexact Hs
    isplitl [Hr]; · iexists _; iexact Hr
    isplitl [Hg]; · iexact Hg
    isplitl [Hw]; · iexact Hw
    isplitl [Hb' Hrest]
    · iapply (Entails.of_eq (blocks_in d (Fin.cast trips_eq k) k.val rfl (wL L) (gath tab ix) f).symm)
      isplitl [Hb']
      · iapply (Entails.of_eq ((pointsTo_congr fun i hi => block_val d L tab ix f k (tile_body.sl.dma0_1 d L tab ix k fr hin)
          (fun x => by
            refine (congrFun (View.read_writes_whole (rV).view fr (tile_body.sl.gather0 d L tab ix k hin)) x).trans ?_
            exact gathered tab (fidx ix (wL L)) k _ hin x) i hi).trans (pts_oK (F := F) d L k _)))
        iexact Hb'
      · iexact Hrest
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ha']; · iexact Ha'
    isplitl [Hs']; · iexact Hs'
    isplitl [Hr']; · iexists _; iexact Hr'
    isplitl [Hg]; · iexact Hg
    isplitl [Hw]; · iexact Hw
    isplitl [Ho]; · iexact Ho
    iexists _; isplitr
    swap; · iexact HO
    ipureintro; intro p hp
    rcases Finset.mem_insert.mp hp with hp | hp; · exact .inr (hp ▸ rfl)
    exact .inl hp
  iintro %_ HI
  unfold inv
  icases HI with ⟨-, Ha', Hs', ⟨%fr', Hr'⟩, Hg, Hw, Ho, %W', %hW', HO⟩
  sl_exec
  sl_step
  isplitl [Ha' Hi' Ho]
  · isplitl [Ha']; · iexact Ha'
    isplitl [Hi']; · iexact Hi'
    iapply (Entails.of_eq (blocks_done d (wL L) (gath tab ix) f))
    iexact Ho
  isplitl [Hs' Hr' Hbufs]
  · isplitl [Hs']; · iexists _; iexact Hs'
    isplitl [Hr']; · iexists _; iexact Hr'
    iexact Hbufs
  isplitl [Hg Hf Hw Hsems]
  · isplitl [Hg]; · iexact Hg
    isplitl [Hf]; · iexact Hf
    isplitl [Hw]; · iexact Hw
    iexact Hsems
  iexists _; isplitr
  swap; · iexact HO
  ipureintro; exact hW'

end Tile

end Cert.KernelIdeal.Own

end
-- ==== Proof.IBody.lean ====
/-
  The TensorCore kernel's body at one grid point: from the staged blocks of its seven inputs it stores one block of 32
  rows of the result.
-/
module

public import proofs.«01_k».proof.Proof.ITile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.WritesUnit

@[expose] public section

noncomputable section

namespace Cert.KernelIdeal.Own

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- What the body stores in the result's block: `x` is the block of gathered rows, `w1 b1 w2 b2` the two layers that score
    the heads, `wv` the four heads' value maps and `bv` the bias of the result. -/
def outBlk (x : S32x96x128.Idx → F .f32) (w1 : S128x32.Idx → F .f32) (b1 : S1x32.Idx → F .f32) (w2 : S32x4.Idx → F .f32)
    (b2 : S1x4.Idx → F .f32) (wv : S4x128x128.Idx → F .f32) (bv : S1x128.Idx → F .f32) : S32x128.Idx → F .f32 :=
  k1_pay1 (k1_pay2 x) (k1_pay3 x w1 b1 w2 b2)
    (k1_pay4 x w1 b1 w2 b2 fun j => wv ((Rect.unit (s := S4x128x128) ![0, 0, 0] S1x128x128.size inb_S4x128x128_S1x128x128_0_0_0).idx j))
    (fun j => wv ((Rect.unit (s := S4x128x128) ![1, 0, 0] S1x128x128.size inb_S4x128x128_S1x128x128_1_0_0).idx j))
    (fun j => wv ((Rect.unit (s := S4x128x128) ![2, 0, 0] S1x128x128.size inb_S4x128x128_S1x128x128_2_0_0).idx j))
    (fun j => wv ((Rect.unit (s := S4x128x128) ![3, 0, 0] S1x128x128.size inb_S4x128x128_S1x128x128_3_0_0).idx j)) bv

/-- A rectangle of unit steps that starts at the origin and is as large as the shape leaves an index where it is. -/
theorem idx_full {s : Shape} (off : Fin s.rank → ℕ) (h0 : ∀ a, off a = 0) (inb : ∀ a, off a + s.size a ≤ s.size a)
    (x : s.Idx) : (Rect.unit off s.size inb).idx x = x :=
  funext fun a => Fin.ext (by show off a + 1 * (x a).val = (x a).val; rw [h0 a]; omega)

/-- A load of the whole of a view reads what the view reads. -/
theorem readAt_full {sp : Space} {S : Shape} {e : EltTy} (M : Memref sig .tc sp S e) (off : Fin S.rank → ℕ) (h0 : ∀ a, off a = 0)
    (inb : ∀ a, off a + S.size a ≤ S.size a) (c : Dev nD) (f : Buf (Elt F) (M.view.loc (c : Thread nD τ))) :
    M.view.readAt (Elt F) (Rect.unit off S.size inb).toLoadRect f = M.view.read (Elt F) f :=
  funext fun x => congrArg (M.view.read (Elt F) f) (idx_full off h0 inb x)

/-- Both offsets of a load of a whole matrix are zero. -/
theorem zero2 : ∀ a : Fin 2, (![0, 0] : Fin 2 → ℕ) a = 0 := by decide
/-- All three offsets of a load of a whole array of rank three are zero. -/
theorem zero3 : ∀ a : Fin 3, (![0, 0, 0] : Fin 3 → ℕ) a = 0 := by decide

/-- The body at one grid point: from the seven inputs' staging buffers reading `X1` … `X7` it returns them as they were and
    the result's staging buffer reading `outBlk X1 … X7`. -/
theorem body_run (c : Dev nD) (i : grid1.Coords)
    (M1 : Memref sig .tc .vmem S32x96x128 .f32) (h1 : M1.IsWhole) (M2 : Memref sig .tc .vmem S128x32 .f32) (h2 : M2.IsWhole)
    (M3 : Memref sig .tc .vmem S1x32 .f32) (h3 : M3.IsWhole) (M4 : Memref sig .tc .vmem S32x4 .f32) (h4 : M4.IsWhole)
    (M5 : Memref sig .tc .vmem S1x4 .f32) (h5 : M5.IsWhole) (M6 : Memref sig .tc .vmem S4x128x128 .f32) (h6 : M6.IsWhole)
    (M7 : Memref sig .tc .vmem S1x128 .f32) (h7 : M7.IsWhole) (M8 : Memref sig .tc .vmem S32x128 .f32) (h8 : M8.IsWhole)
    (X1 : S32x96x128.Idx → F .f32) (X2 : S128x32.Idx → F .f32) (X3 : S1x32.Idx → F .f32) (X4 : S32x4.Idx → F .f32)
    (X5 : S1x4.Idx → F .f32) (X6 : S4x128x128.Idx → F .f32) (X7 : S1x128.Idx → F .f32) (X8 : S32x128.Idx → F .f32)
    (Q : PUnit → sProp 𝕄) :
    iprop(owns (c : Thread nD τ) M1 fullShare (X1 : S32x96x128.Idx → Elt F .f32)
        ∗ owns (c : Thread nD τ) M2 fullShare (X2 : S128x32.Idx → Elt F .f32)
        ∗ owns (c : Thread nD τ) M3 fullShare (X3 : S1x32.Idx → Elt F .f32)
        ∗ owns (c : Thread nD τ) M4 fullShare (X4 : S32x4.Idx → Elt F .f32)
        ∗ owns (c : Thread nD τ) M5 fullShare (X5 : S1x4.Idx → Elt F .f32)
        ∗ owns (c : Thread nD τ) M6 fullShare (X6 : S4x128x128.Idx → Elt F .f32)
        ∗ owns (c : Thread nD τ) M7 fullShare (X7 : S1x128.Idx → Elt F .f32)
        ∗ owns (c : Thread nD τ) M8 fullShare (X8 : S32x128.Idx → Elt F .f32)
        ∗ ((owns (c : Thread nD τ) M1 fullShare (X1 : S32x96x128.Idx → Elt F .f32)
          ∗ owns (c : Thread nD τ) M2 fullShare (X2 : S128x32.Idx → Elt F .f32)
          ∗ owns (c : Thread nD τ) M3 fullShare (X3 : S1x32.Idx → Elt F .f32)
          ∗ owns (c : Thread nD τ) M4 fullShare (X4 : S32x4.Idx → Elt F .f32)
          ∗ owns (c : Thread nD τ) M5 fullShare (X5 : S1x4.Idx → Elt F .f32)
          ∗ owns (c : Thread nD τ) M6 fullShare (X6 : S4x128x128.Idx → Elt F .f32)
          ∗ owns (c : Thread nD τ) M7 fullShare (X7 : S1x128.Idx → Elt F .f32)
          ∗ owns (c : Thread nD τ) M8 fullShare (outBlk X1 X2 X3 X4 X5 X6 X7 : S32x128.Idx → Elt F .f32)) -∗ Q ⟨⟩))
      ⊢ wp frame (wpE (defs₀ (F := F)) 𝒱₀ (c : Thread nD τ) none) Set.univ (cc1_body i M1 h1 M2 h2 M3 h3 M4 h4 M5 h5 M6 h6 M7 h7 M8 h8) Q := by
  rw [cc1_body_eq_skeleton]; unfold cc1_body_skel
  rw [k1_part1_eq_skeleton]; unfold k1_part1_skel owns
  rw [h1.set_eq_univ, h2.set_eq_univ, h3.set_eq_univ, h4.set_eq_univ, h5.set_eq_univ, h6.set_eq_univ, h7.set_eq_univ, h8.set_eq_univ]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  subst e1 e2 e3 e4 e5 e6 e7 e8
  sl_exec
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  iexists _
  isplitr; swap; (· iexact H8)
  ipureintro
  rw [readAt_full M1 _ zero3, readAt_full M2 _ zero2, readAt_full M3 _ zero2, readAt_full M4 _ zero2, readAt_full M5 _ zero2, readAt_full M7 _ zero2]
  funext y
  exact View.read_writes_cons_unit_of_mem _ _ inb_S32x128_S32x128_0_0 _ [] y y rfl fun a => by rw [zero2 a]; omega

end Cert.KernelIdeal.Own

end
-- ==== Proof.IRegion.lean ====
/-
  The TensorCore kernel as a whole: what its 32 grid points leave in the result's array, and the step of @main that runs
  it, entered from any contents of the arrays.
-/
module

public import proofs.«01_k».proof.Proof.IBody
public import Idealize.ShloMosaic.Lib.Pipeline.Regions
public import Idealize.ShloMosaic.Lib.Pipeline.RegionsLoop

@[expose] public section

noncomputable section

namespace Cert.KernelIdeal.Own

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- What the kernel leaves in the result's array: row `r` is row `r % 32` of the block of rows `32 * (r / 32)`, …. -/
def outArr (x : S1024x96x128.Idx → F .f32) (w1 : S128x32.Idx → F .f32) (b1 : S1x32.Idx → F .f32) (w2 : S32x4.Idx → F .f32)
    (b2 : S1x4.Idx → F .f32) (wv : S4x128x128.Idx → F .f32) (bv : S1x128.Idx → F .f32) : S1024x128.Idx → F .f32 := fun r =>
  outBlk (fun j => x (ix3 (⟨32 * ((r 0).val / 32) + (j 0).val, by
      have h : (r 0).val < 1024 := (r 0).isLt; have h' : (j 0).val < 32 := (j 0).isLt; omega⟩ : Fin 1024)
        (⟨(j 1).val, (j 1).isLt⟩ : Fin 96) (⟨(j 2).val, (j 2).isLt⟩ : Fin 128))) w1 b1 w2 b2 wv bv
    (ix2 (⟨(r 0).val % 32, Nat.mod_lt _ (by decide)⟩ : Fin 32) (⟨(r 1).val, (r 1).isLt⟩ : Fin 128))

/-! ## The proof data at entry contents `V` -/

variable (V : (c : Dev nD) → (b : Ref sig .tc) → Buf (Elt F) ((c : Thread nD τ).loc b))

/-- Window `w`'s block at point `t`, of the entry contents. -/
abbrev iblk (c : Dev nD) (w : Fin 8) (t : Fin cfg1.N) : ((cfg1.win w).xblock (cfg1.grid.coords t)).Idx → Elt F (cfg1.win w).elt :=
  ((cfg1.win w).blk t).view.read (Elt F) (V c (Pipeline.arrRef spec1 w))

/-- The result's block at point `t`. -/
abbrev oblk (c : Dev nD) (t : Fin cfg1.N) : S32x128.Idx → F .f32 :=
  outBlk (iblk V c 0 t) (iblk V c 1 t) (iblk V c 2 t) (iblk V c 3 t) (iblk V c 4 t) (iblk V c 5 t) (iblk V c 6 t)

/-- The proof data: the inputs' buffers keep their blocks, the result's holds `oblk`; nothing is owed; the waits recorded
    before lie below the end of the SparseCore's call. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => oblk V c t
  Φ _ := BI.emp
  q _ := fullShare
  owed _ := 0
  recorded _ := {p | (K (F := F)).lev ((c : Thread nD τ), p.1) p.2 ≤ 8}

/-- Each input's stage holds the point's block of it before the body runs: here the gathered rows, then the others. -/
theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d) : (dat V c).before 5 t d = iblk V c 5 t :=
  ((dat V c).before_in_eq_fetched 5 rfl (fun _ => rfl) (fun _ _ _ => rfl) (fun _ => rfl) t d).trans rfl
theorem before_6 (c : Dev nD) (t : Fin cfg1.N) (d) : (dat V c).before 6 t d = iblk V c 6 t :=
  ((dat V c).before_in_eq_fetched 6 rfl (fun _ => rfl) (fun _ _ _ => rfl) (fun _ => rfl) t d).trans rfl

/-- The body at point `t` keeps the proof data. -/
theorem body_obligation (c : Dev nD) : BodyObligation (dat V c) (defs₀ (F := F)) 𝒱₀ none Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_0, before_1, before_2, before_3, before_4, before_5, before_6]
  iapply (body_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    (iblk V c 0 t) (iblk V c 1 t) (iblk V c 2 t) (iblk V c 3 t) (iblk V c 4 t) (iblk V c 5 t) (iblk V c 6 t) ((dat V c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## What the result's array holds at the end -/

/-- The block of rows at point `t` sits at rows `32 * t`, …, of the gathered array and of the result; the other inputs'
    block is the array. -/
theorem index_0 : ∀ t : Fin grid1.N, win1_0.index t = ![t.val, 0, 0] := by decide +kernel
theorem index_1 : ∀ t : Fin grid1.N, win1_1.index t = ![0, 0] := by decide +kernel
theorem index_2 : ∀ t : Fin grid1.N, win1_2.index t = ![0, 0] := by decide +kernel
theorem index_3 : ∀ t : Fin grid1.N, win1_3.index t = ![0, 0] := by decide +kernel
theorem index_4 : ∀ t : Fin grid1.N, win1_4.index t = ![0, 0] := by decide +kernel
theorem index_5 : ∀ t : Fin grid1.N, win1_5.index t = ![0, 0, 0] := by decide +kernel
theorem index_6 : ∀ t : Fin grid1.N, win1_6.index t = ![0, 0] := by decide +kernel
theorem index_7 : ∀ t : Fin grid1.N, win1_7.index t = ![t.val, 0] := by decide +kernel

/-- The gathered rows' block at point `t` is their crystals `32 t` to `32 t + 31`. -/
theorem iblk_0 (c : Dev nD) (t : Fin cfg1.N) (x : S32x96x128.Idx) (r : S1024x96x128.Idx) (h0 : (r 0).val = 32 * t.val + (x 0).val)
    (h1 : (r 1).val = (x 1).val) (h2 : (r 2).val = (x 2).val) : iblk V c 0 t x = (V c main_v3 : S1024x96x128.Idx → F .f32) r := by
  blk_simp [iblk]
  refine congrArg (V c main_v3) (funext fun a => Fin.ext ?_)
  fin_cases a <;> blk_simp [index_0] <;> simp <;> omega

/-- The other inputs' blocks are the arrays themselves: the first layer's weights. -/
theorem iblk_1 (c : Dev nD) (t : Fin cfg1.N) : (iblk V c 1 t : S128x32.Idx → F .f32) = (V c main_arg2 : S128x32.Idx → F .f32) := by
  funext x
  blk_simp [iblk]
  refine congrArg (V c main_arg2) (funext fun a => Fin.ext ?_)
  fin_cases a <;> blk_simp [index_1] <;> simp

/-- The first layer's bias. -/
theorem iblk_2 (c : Dev nD) (t : Fin cfg1.N) : (iblk V c 2 t : S1x32.Idx → F .f32) = (V c main_v5 : S1x32.Idx → F .f32) := by
  funext x
  blk_simp [iblk]
  refine congrArg (V c main_v5) (funext fun a => Fin.ext ?_)
  fin_cases a <;> blk_simp [index_2] <;> simp

/-- The second layer's weights. -/
theorem iblk_3 (c : Dev nD) (t : Fin cfg1.N) : (iblk V c 3 t : S32x4.Idx → F .f32) = (V c main_arg4 : S32x4.Idx → F .f32) := by
  funext x
  blk_simp [iblk]
  refine congrArg (V c main_arg4) (funext fun a => Fin.ext ?_)
  fin_cases a <;> blk_simp [index_3] <;> simp

/-- The second layer's bias. -/
theorem iblk_4 (c : Dev nD) (t : Fin cfg1.N) : (iblk V c 4 t : S1x4.Idx → F .f32) = (V c main_v6 : S1x4.Idx → F .f32) := by
  funext x
  blk_simp [iblk]
  refine congrArg (V c main_v6) (funext fun a => Fin.ext ?_)
  fin_cases a <;> blk_simp [index_4] <;> simp

/-- The projection's weights, head by head. -/
theorem iblk_5 (c : Dev nD) (t : Fin cfg1.N) : (iblk V c 5 t : S4x128x128.Idx → F .f32) = (V c main_v4 : S4x128x128.Idx → F .f32) := by
  funext x
  blk_simp [iblk]
  refine congrArg (V c main_v4) (funext fun a => Fin.ext ?_)
  fin_cases a <;> blk_simp [index_5] <;> simp

/-- The projection's bias. -/
theorem iblk_6 (c : Dev nD) (t : Fin cfg1.N) : (iblk V c 6 t : S1x128.Idx → F .f32) = (V c main_v7 : S1x128.Idx → F .f32) := by
  funext x
  blk_simp [iblk]
  refine congrArg (V c main_v7) (funext fun a => Fin.ext ?_)
  fin_cases a <;> blk_simp [index_6] <;> simp

/-- The result's array after the region. -/
abbrev outV (c : Dev nD) : S1024x128.Idx → F .f32 :=
  outArr (V c main_v3) (V c main_arg2) (V c main_v5) (V c main_arg4) (V c main_v6) (V c main_v4) (V c main_v7)

/-- After the last point the result's array is the 32 blocks' results put together. -/
theorem arr_out (c : Dev nD) : (dat V c).arrAt 7 cfg1.N = outV V c := by
  refine (dat V c).arrAt_eq_of_covers 7 _ (by decide +kernel) fun t hf y => ?_
  blk_simp
  have ht : t.val < 32 := lt_of_lt_of_eq t.isLt N_1
  have hy0 : (y 0).val < 32 := (y 0).isLt
  have e0 : (((win1_7.blk t).view.emb y) 0).val = 32 * t.val + (y 0).val := by blk_simp [index_7]; simp; omega
  have e1 : (((win1_7.blk t).view.emb y) 1).val = (y 1).val := by blk_simp [index_7]
  show oblk V c t y = outV V c ((win1_7.blk t).view.emb y)
  unfold oblk outV outArr
  rw [iblk_1, iblk_2, iblk_3, iblk_4, iblk_5, iblk_6]
  refine congr (congrArg (fun X => outBlk X _ _ _ _ _ _) (funext fun j => ?_)) (funext fun a => Fin.ext ?_)
  · refine iblk_0 V c t j _ ?_ rfl rfl
    show 32 * ((((win1_7.blk t).view.emb y) 0).val / 32) + (j 0).val = _
    rw [e0]; omega
  · match a with
    | ⟨0, _⟩ => show (y 0).val = (((win1_7.blk t).view.emb y) 0).val % 32; rw [e0]; omega
    | ⟨1, _⟩ => exact e1.symm

/-! ## The region as a step of @main -/

/-- The pipeline reads no table beforehand. -/
abbrev adm : (p : Fin 1) → (pcfgs (F := F) p).Adm := fun p => (cfgs p).toPCfg_adm

/-- The proof data of @main's pipelines: of its one. -/
def pdats : (p : Fin 1) → (c : Dev nD) → Dat τ (Elt F) (HIx 1) ℕ UU ℕ (Pipeline.pin (pcfgs (F := F)) adm p) c
  | ⟨0, _⟩ => fun c => dat V c

-- the contents the region leaves: any that have the result's array at `outV` and agree with `V` off it
variable (Vp : (c : Dev nD) → (b : Ref sig .tc) → Buf (Elt F) ((c : Thread nD τ).loc b))

/-- What the core owes at the region's ends: nothing, its recorded waits below the end of the SparseCore's call. -/
abbrev owes0 (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The region, entered with every unscoped buffer at `V` and left with every one at `Vp`. -/
def reg (hVp_out : ∀ c, Vp c main_v8 = outV V c) (hVp_ne : ∀ c (b : Ref sig .tc), b ≠ main_v8 → Vp c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owes0 c)
  post c := iprop(unscopedBufs c (Vp c) ∗ owes0 c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (Pipeline.scopedRest (Pipeline.pin (pcfgs (F := F)) adm 0).spec c : sProp 𝕄) = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        have hne : ∀ w : Fin 8, w ≠ 7 → Pipeline.arrRef spec1 w ≠ main_v8 := by decide
        by_cases h : w = 7
        · subst h; exact (arr_out V c).trans (hVp_out c).symm
        · have hin : ∀ w : Fin 8, w ≠ 7 → (cfg1.win w).isOut = false := by decide
          exact ((pdats V 0 c).arrAt_in w (hin w h) _).trans (hVp_ne c _ (hne w h)).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; (· iexact HO)
    ipureintro
    intro p hp
    rcases hW hp with h | ⟨w, s, h⟩
    · exact h
    · rw [h]; exact Nat.zero_le _

end Cert.KernelIdeal.Own

end
-- ==== Proof.ILaunch.lean ====
/-
  The launch of the gather on the 32 vector subcores: what @main hands each of them, that the pieces are the whole arrays,
  and the ghost state the run starts from.
-/
module

public import proofs.«01_k».proof.Proof.IRegion

@[expose] public section

noncomputable section

namespace Cert.KernelIdeal.Own

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The pieces are the whole arrays -/

/-- A block's elements are those of its rectangle. -/
theorem blkSet_eq (b : Fin 768) : blkSet b = (blk b).set := by
  show ((View.whole (main_v2_scv : Ref sig .scVector)).slice (blk b)).set = _
  rw [View.set_slice]; exact Finset.map_refl

/-- Two blocks share no element. -/
theorem blk_disjoint : ∀ b ∈ (Finset.univ : Finset (Fin 768)), ∀ b' ∈ (Finset.univ : Finset (Fin 768)), b ≠ b' → Disjoint (blkSet b) (blkSet b') :=
  fun b _ b' _ h => by rw [blkSet_eq, blkSet_eq]; exact Rect.part_disjoint odiv h

/-- The 768 blocks make up the output. -/
theorem blk_cover : (Finset.univ : Finset (Fin 768)).biUnion blkSet = Finset.univ :=
  (Finset.biUnion_congr rfl fun b _ => blkSet_eq b).trans (Rect.biUnion_part odiv)

/-- Conjoined over the SparseCores and their subcores is conjoined over the workers. -/
theorem bigSep_workers (Φ : Fin 32 → sProp 𝕄) :
    (bigSep Finset.univ fun c : Fin 2 => bigSep Finset.univ fun s : Fin 16 => Φ (wk c s)) = bigSep Finset.univ Φ := by
  exact ((BI.bigSep_univ_equiv ((Equiv.prodComm (Fin 2) (Fin 16)).trans (finProdFinEquiv (m := 16) (n := 2))) Φ).trans (BI.bigSep_univ_prod _)).symm

/-- What the 32 workers hold together: the two tables whole and the gathered array whole. -/
theorem work_all (d : Dev nD) (tab : Buf (Elt F) (aLoc d)) (ix : Buf (Elt F) (iLoc d)) (f : Buf (Elt F) (oLoc d)) :
    (bigSep Finset.univ fun w : Fin 32 => work d tab ix f w)
      = (iprop((aLoc d ↦{fullShare} tab) ∗ (iLoc d ↦{fullShare} ix) ∗ oLoc d ↦{fullShare} f) : sProp 𝕄) := by
  have hu : (Finset.univ : Finset (Fin 32)).Nonempty := ⟨0, Finset.mem_univ _⟩
  have ho : (bigSep Finset.univ fun w : Fin 32 => bigSep Finset.univ fun t : Fin 24 => oLoc d ↦[blkSet (bk w t)]{fullShare} f)
      = (oLoc d ↦{fullShare} f : sProp 𝕄) := by
    refine (((BI.bigSep_univ_equiv (finProdFinEquiv (m := 32) (n := 24))
      (fun b : Fin 768 => (oLoc d ↦[blkSet b]{fullShare} f : sProp 𝕄))).trans (BI.bigSep_univ_prod _)).symm).trans ?_
    rw [← pointsTo_biUnion Finset.univ (ℓ := oLoc d) blkSet blk_disjoint, blk_cover]
  unfold work shr
  rw [bigSep_sep', bigSep_sep', ho, ← Transfers.pointsTo_deal Finset.univ hu fullShare, ← Transfers.pointsTo_deal Finset.univ hu fullShare]

/-! ## The arrays' contents along @main -/

abbrev op0 : HloOp τ sig (Elt F) := StableHlo.reshape main_arg1 main_v0 (rfl : (.i32 : EltTy) = .i32) shapeCasts_S1024x96_S98304
abbrev op1 : HloOp τ sig (Elt F) := StableHlo.reshape main_v0 main_v1 (rfl : (.i32 : EltTy) = .i32) shapeCasts_S98304_S768x128
abbrev op3 : HloOp τ sig (Elt F) := StableHlo.reshape main_v2 main_v3 (rfl : (.f32 : EltTy) = .f32) shapeCasts_S98304x128_S1024x96x128
abbrev op4 : HloOp τ sig (Elt F) := StableHlo.reshape main_arg6 main_v4 (rfl : (.f32 : EltTy) = .f32) shapeCasts_S512x128_S4x128x128
abbrev op5 : HloOp τ sig (Elt F) := StableHlo.reshape main_arg3 main_v5 (rfl : (.f32 : EltTy) = .f32) shapeCasts_S32_S1x32
abbrev op6 : HloOp τ sig (Elt F) := StableHlo.reshape main_arg5 main_v6 (rfl : (.f32 : EltTy) = .f32) shapeCasts_S4_S1x4
abbrev op7 : HloOp τ sig (Elt F) := StableHlo.reshape main_arg7 main_v7 (rfl : (.f32 : EltTy) = .f32) shapeCasts_S128_S1x128

abbrev a0' : DevRef τ sig := Proc.devRef .tc (main_arg0 : Ref sig .tc)
abbrev v1' : DevRef τ sig := Proc.devRef .tc (main_v1 : Ref sig .tc)
abbrev v2' : DevRef τ sig := Proc.devRef .tc (main_v2 : Ref sig .tc)
abbrev v8' : DevRef τ sig := Proc.devRef .tc (main_v8 : Ref sig .tc)

variable (m : (ℓ : Loc nD τ sig) → Buf (Elt F) ℓ)

/-- At the launch; before the gather; after it; before the TensorCore's kernel; after it. -/
def V0 (d : Dev nD) : Valuation τ sig (Elt F) := fun b => m (d, b)
/-- Before the gather. -/
def V2 (d : Dev nD) : Valuation τ sig (Elt F) := (op1 (F := F)).result ((op0 (F := F)).result (V0 m d))
/-- After the gather. -/
def V3 (d : Dev nD) : Valuation τ sig (Elt F) := Function.update (V2 m d) v2' (gath (V2 m d a0') (V2 m d v1'))
/-- Before the TensorCore's kernel. -/
def V8 (d : Dev nD) : Valuation τ sig (Elt F) :=
  (op7 (F := F)).result ((op6 (F := F)).result ((op5 (F := F)).result ((op4 (F := F)).result ((op3 (F := F)).result (V3 m d)))))
/-- After the TensorCore's kernel. -/
def V9 (d : Dev nD) : Valuation τ sig (Elt F) := Function.update (V8 m d) v8' (outV (fun c b => V8 m c b) d)

/-! ## What passes between @main and the subcores -/

/-- The share of subcore `i` of SparseCore `c`, the gathered array at `f`. -/
abbrev part (d : Dev nD) (f : Buf (Elt F) (oLoc d)) (c i : ℕ) : sProp 𝕄 :=
  work d (V2 m d a0') (V2 m d v1') f (wk (⟨c % 2, Nat.mod_lt _ (by decide)⟩ : Fin 2) (⟨i % 16, Nat.mod_lt _ (by decide)⟩ : Fin 16))

/-- Each subcore is handed its part of the arrays and returns it with its blocks gathered; a SparseCore, its subcores'. -/
def P : (K (F := F)).Pay (nD := nD) (Val := Elt F) (Name := ℕ) (U := UU) where
  st := fun q d c => bigSep Finset.univ fun i : Fin ((K (F := F)).nSub q) => part m d (V2 m d v2') c.val i.val
  dn := fun q d c => bigSep Finset.univ fun i : Fin ((K (F := F)).nSub q) => part m d (gath (V2 m d a0') (V2 m d v1')) c.val i.val
  go := fun _ d c i => part m d (V2 m d v2') c.val i.val
  td := fun _ d c i => part m d (gath (V2 m d a0') (V2 m d v1')) c.val i.val
  x := fun _ _ => iprop(emp)

/-- What passes between them may be stored. -/
instance P_storable : (P m).IsStorable where
  st _ d c := by unfold P; infer_instance
  dn _ d c := by unfold P; infer_instance
  go _ d c i := by unfold P; infer_instance
  td _ d c i := by unfold P; infer_instance

/-- The parts of all subcores are the table, the index table and the output, whole. -/
theorem parts_all (d : Dev nD) (f : Buf (Elt F) (oLoc d)) :
    (bigSep Finset.univ fun c : Fin ((K (F := F)).nCore 0) => bigSep Finset.univ fun i : Fin ((K (F := F)).nSub 0) => part m d f c.val i.val)
      = (iprop((aLoc d ↦{fullShare} V2 m d a0') ∗ (iLoc d ↦{fullShare} V2 m d v1') ∗ oLoc d ↦{fullShare} f) : sProp 𝕄) := by
  rw [← work_all d (V2 m d a0') (V2 m d v1') f, ← bigSep_workers]
  exact bigSep_congr fun c _ => bigSep_congr fun i _ => congrArg (work d (V2 m d a0') (V2 m d v1') f)
    (congrArg₂ wk (Fin.ext (Nat.mod_eq_of_lt c.isLt)) (Fin.ext (Nat.mod_eq_of_lt i.isLt)))

/-- A SparseCore's share is its subcores' shares, handed out and taken back. -/
theorem vecSplit : (K (F := F)).VecSplit' (P m) 0 := by
  intro d c
  show (bigSep Finset.univ fun i : Fin ((K (F := F)).nSub 0) => part m d (V2 m d v2') c.val i.val)
    ⊢ |={Set.univ}=> iprop((bigSep Finset.univ fun i : Fin ((K (F := F)).nSub 0) => part m d (V2 m d v2') c.val i.val)
      ∗ ((bigSep Finset.univ fun i : Fin ((K (F := F)).nSub 0) => part m d (gath (V2 m d a0') (V2 m d v1')) c.val i.val)
        -∗ bigSep Finset.univ fun i : Fin ((K (F := F)).nSub 0) => part m d (gath (V2 m d a0') (V2 m d v1')) c.val i.val))
  iintro H; imodintro
  isplitl [H]; · iexact H
  iintro H; iexact H

/-! ## The obligation of a subcore -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What subcore `s` of SparseCore `c` runs: the gather kernel at its coordinates. -/
theorem defs₀_vector (c : Fin τ.nSC) (s : Fin τ.nSub) :
    defs₀ (F := F) (.scVector c s) 0 ()
      = SparseCore.onTile hcore0 hsub0 (fun c s => cc0_gather_kernel (coordsV c s)
          (Memref.whole main_arg0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) cc0_scratch2 cc0_scoped0 cc0_scoped1) ⟨⟩ c s := rfl

/-- The waits that a subcore's run records are among those that the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every word of the index table names a row of the table. -/
abbrev IxOK : Prop := ∀ (d : Dev nD) (j : S768x128.Idx), ((V2 m d v1' : S768x128.Idx → BitVec 32) j).toNat < 100000

/-- A subcore's part is that of the worker at its coordinates. -/
theorem part_coords (d : Dev nD) (f : Buf (Elt F) (oLoc d)) (c : Fin (grid0.bound 0)) (i : Fin (grid0.bound 1)) :
    part m d f c.val i.val = work d (V2 m d a0') (V2 m d v1') f (wL (coordsV c i)) :=
  congrArg (work d (V2 m d a0') (V2 m d v1') f)
    (congrArg₂ wk (Fin.ext (Nat.mod_eq_of_lt c.isLt)) (Fin.ext (Nat.mod_eq_of_lt i.isLt)))

set_option maxRecDepth 16384 in
/-- Each subcore keeps what the launch asks of it. -/
theorem tileObl (hix : IxOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m).go 0 d c i = _ := part_coords m d (V2 m d v2') ⟨_, hci.1⟩ ⟨_, hci.2⟩
  have htd : (P m).td 0 d c i = _ := part_coords m d (gath (V2 m d a0') (V2 m d v1')) ⟨_, hci.1⟩ ⟨_, hci.2⟩
  rw [hgo, htd]
  exact (tile_body d (coordsV ⟨_, hci.1⟩ ⟨_, hci.2⟩) facts (V2 m d a0') (V2 m d v1') (V2 m d v2') (hix d) O W hO).trans
    (wp_mono frame _ _ fun _ => obl_post (q := 0))

/-! ## The ghost state the run starts from -/

/-- The pipeline's rounds, among the run's ghost state. -/
abbrev EP : Emb UP (MT nD τ sig (HIx 1) (Elt F) ℕ UU ℕ) := (Emb.inl : Emb UP (UP × Counters)).trans embR

/-- The pipeline's semaphores are distinct. -/
theorem pin_inj : Function.Injective (Pipeline.cellOf (nD := nD) (τ := τ) (Pipeline.pin (pcfgs (F := F)) adm)) := cellOf_inj

/-- The ghost state of the handshake and of the pipeline at the start. -/
def u₀ : UU := (initOf (K (F := F)).hsCells (K (F := F)).hsToks,
  (initOf (Pipeline.cells (nD := nD) (τ := τ) (Pipeline.pin (pcfgs (F := F)) adm) pin_inj)
    (Pipeline.launchToks (Pipeline.pin (pcfgs (F := F)) adm) pin_inj), 1))

/-- What @main is dealt for the TensorCore's pipeline. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

/-- The launch's ghost state as @main is dealt it. -/
theorem ghost_all (a b : Dev nD → Fin 1 → sProp 𝕄) :
    iprop((bigSep Finset.univ fun d : Dev nD => bigSep Finset.univ fun p : Fin 1 => a d p) ∗ bigSep Finset.univ fun d : Dev nD => bigSep Finset.univ fun p : Fin 1 => b d p)
      ⊢ bigSep Finset.univ fun d : Dev nD => iprop(a d 0 ∗ b d 0) := by
  rw [bigSep_sep', bigSep_congr fun d _ => bigSep_univ_of_subsingleton (Φ := a d) (0 : Fin 1),
    bigSep_congr fun d _ => bigSep_univ_of_subsingleton (Φ := b d) (0 : Fin 1)]

/-- Nothing more is handed to the threads. -/
theorem x_all : (iprop(emp) : sProp 𝕄) ⊢ bigSep Finset.univ fun thr : Thread nD τ => bigSep Finset.univ fun q : Fin 1 => (P (F := F) m).x q thr := by
  exact Entails.of_eq ((bigSep_emp_const _).symm.trans (bigSep_congr fun _ _ => (bigSep_emp_const _).symm))

/-- The ghost state at the start gives the handshake's part and what @main is dealt. -/
theorem hu₀ : (ownU (u₀ (F := F)) : sProp 𝕄)
    ⊢ |={Set.univ}=> iprop(BI.own (EH (initOf (K (F := F)).hsCells (K (F := F)).hsToks)) ∗ (bigSep Finset.univ fun d : Dev nD => Gd d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP pin_inj) $$ HP with H
  imodintro
  isplitl [HH]; · iexact HH
  isplitl [H]
  · iapply (ghost_all (F := F) (fun d p => Pipeline.cellsGhost (Pipeline.pin (pcfgs (F := F)) adm) EP p d)
      (fun d p => Pipeline.toksInit (Pipeline.pin (pcfgs (F := F)) adm) EP p d)) $$ H
  iapply (x_all m)
  iempintro

end Cert.KernelIdeal.Own

end
-- ==== Proof.IRun.lean ====
/-
  The run of the whole program: @main's reshapes, the gather on the vector subcores and the TensorCore's kernel, in order,
  and what every array of the TensorCore holds at the end.
-/
module

public import proofs.«01_k».proof.Proof.ILaunch

@[expose] public section

noncomputable section

namespace Cert.KernelIdeal.Own

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The TensorCore's arrays. -/
abbrev U : Finset (DevRef τ sig) := Pipeline.ucRefs τ sig
/-- The three of them that the gather reads and writes. -/
abbrev U3 : Finset (DevRef τ sig) := {a0', v1', v2'}

/-- They are among the TensorCore's arrays. -/
theorem U3_sub : U3 ⊆ U := by decide

/-- Holding the three is holding each. -/
theorem held_U3 (d : Dev nD) (W : Valuation τ sig (Elt F)) :
    held (T d) U3 W = (iprop((aLoc d ↦{fullShare} W a0') ∗ (iLoc d ↦{fullShare} W v1') ∗ oLoc d ↦{fullShare} W v2') : sProp 𝕄) := by
  unfold held U3
  rw [SparseCore.bigSep_insert' (by decide), SparseCore.bigSep_insert' (by decide), bigSep_singleton]

/-- The gather writes no array but its output. -/
theorem V3_ne (d : Dev nD) {b : DevRef τ sig} (h : b ≠ v2') : V3 m d b = V2 m d b := Function.update_of_ne h _ _
/-- Its output holds the gathered rows. -/
theorem V3_eq (d : Dev nD) : V3 m d v2' = gath (V2 m d a0') (V2 m d v1') := Function.update_self _ _ _

/-- The TensorCore's arrays after the gather: the three, and the rest as before. -/
theorem held_V3 (d : Dev nD) :
    held (T d) U (V3 m d) = (iprop(((aLoc d ↦{fullShare} V2 m d a0') ∗ (iLoc d ↦{fullShare} V2 m d v1')
      ∗ oLoc d ↦{fullShare} gath (V2 m d a0') (V2 m d v1')) ∗ held (T d) (U \ U3) (V2 m d)) : sProp 𝕄) := by
  rw [StableHlo.held_sub_split (T d) U3_sub, held_U3, V3_eq, V3_ne m d (b := a0') (by decide), V3_ne m d (b := v1') (by decide)]
  refine congrArg _ ?_
  exact StableHlo.held_congr (T d) fun b hb => V3_ne m d fun h => (Finset.mem_sdiff.mp hb).2 (h ▸ (by decide : v2' ∈ U3))

/-- The TensorCore's arrays before the gather: the three, and the rest. -/
theorem held_V2 (d : Dev nD) :
    held (T d) U (V2 m d) = (iprop(((aLoc d ↦{fullShare} V2 m d a0') ∗ (iLoc d ↦{fullShare} V2 m d v1')
      ∗ oLoc d ↦{fullShare} V2 m d v2') ∗ held (T d) (U \ U3) (V2 m d)) : sProp 𝕄) := by
  rw [StableHlo.held_sub_split (T d) U3_sub, held_U3]

/-! ## The TensorCore's kernel as a step of @main -/

/-- The TensorCore's kernel leaves its value in the result's array. -/
theorem V9_eq (c : Dev nD) : V9 m c v8' = outV (fun c b => V8 m c b) c := by
  rw [V9, Function.update_self]
/-- It writes no other array. -/
theorem V9_ne (c : Dev nD) (b : Ref sig .tc) (h : b ≠ main_v8) : V9 m c b = V8 m c b :=
  Function.update_of_ne (fun e => h (Proc.devRef_injective .tc e)) _ _

/-- The TensorCore's kernel with its arrays' contents before and after. -/
def regM : Pipeline.RegionSeg (pcfgs (F := F)) adm (pdats fun c b => V8 m c b) none defs₀ 𝒱₀ (K (F := F)).L (K (F := F)).lev 0 :=
  reg (fun c b => V8 m c b) (fun c b => V9 m c b) (V9_eq m) (V9_ne m)

/-- The TensorCore's kernel, entered. -/
abbrev enter : Prog (TpuEff nD τ sig (Elt F) (ΛP (F := F)) .tc) PUnit := .op (.customCall (Pipeline.entry 0) ()) .ret

/-- Its call in @main is its entry, lifted. -/
theorem lift_enter : (Prog.lift (.customCall (SparseCore.inner (Λ := ΛP (F := F)) (Q := 1) (Pipeline.entry 0)) ()) : Prog (TpuEff nD τ sig (Elt F) _ .tc) PUnit)
    = SparseCore.liftProg (Q := 1) (enter (F := F)) := rfl

/-- The TensorCore's kernel, entered, runs from the contents before it to those after it. -/
theorem wp_region [∀ e, Nonempty (Elt F e)] (d : Dev nD) (Q : PUnit → sProp 𝕄) :
    iprop((iprop(boundary (T d) ∗ (regM m).post d) -∗ Q ⟨⟩)
        ∗ boundary (T d) ∗ (regM m).pre d ∗ levAts (K (F := F)).L (K (F := F)).lev ∗ Gd d)
      ⊢ wp frame (wpE (D (F := F)) 𝒱 (T d) none) Set.univ (enter (F := F)) Q := by
  have h := (Pipeline.RegionSeg.wp (pcfgs (F := F)) adm (pdats fun c b => V8 m c b) none pin_inj EP defs₀ 𝒱₀ (K (F := F)).L (K (F := F)).lev
    (regM m) d none (fun _ hu => nomatch hu) (fun r => .ret r) Q)
  iintro ⟨HQ, Hb, Hpre, HL, Hc, Ht⟩
  iapply h
  isplitl [HQ]
  · iintro ⟨Hb, Hp⟩
    rw [wp_ret]; imodintro
    iapply HQ
    isplitl [Hb]; · iexact Hb
    iexact Hp
  isplitl [Hb]; · iexact Hb
  isplitl [Hpre]; · iexact Hpre
  isplitl [HL]; · iexact HL
  isplitl [Hc] <;> iassumption

/-- The same of its call in @main. -/
theorem wp_tensor [∀ e, Nonempty (Elt F e)] (d : Dev nD) (Q : PUnit → sProp 𝕄) :
    iprop((iprop(boundary (T d) ∗ (regM m).post d) -∗ Q ⟨⟩)
        ∗ boundary (T d) ∗ (regM m).pre d ∗ levAts (K (F := F)).L (K (F := F)).lev ∗ Gd d)
      ⊢ wp frame (wpE ((K (F := F)).defs (D (F := F))) 𝒱 (T d) none) Set.univ
          (Prog.lift (.customCall (SparseCore.inner (Pipeline.entry 0)) ())) Q := by
  rw [lift_enter]
  exact (wp_region m d Q).trans ((K (F := F)).wp_liftProg (D (F := F)) 𝒱 (T d) Set.univ none enter Q)

/-- What it starts from: the arrays at the contents before it. -/
theorem regM_pre (d : Dev nD) : (regM m).pre d = iprop(unscopedBufs d (fun b => V8 m d b) ∗ owes0 d) := rfl
/-- What it ends with: the arrays at the contents after it. -/
theorem regM_post (d : Dev nD) : (regM m).post d = iprop(unscopedBufs d (fun b => V9 m d b) ∗ owes0 d) := rfl

/-! ## @main -/

/-- What @main ends with: every array of the TensorCore at its final contents. -/
abbrev FIN (d : Dev nD) : sProp 𝕄 := held (T d) U (V9 m d)

/-- After the one call the TensorCore owes no signal. -/
theorem Otc_one (d : Dev nD) : (K (F := F)).Otc d 1 = 0 := by
  unfold SparseCore.Cfg.Otc
  rw [Fin.sum_univ_one]; exact if_neg (by decide)

/-- After the one call the TensorCore owes nothing: that comes out, and goes back. -/
theorem tcSt_owes (d : Dev nD) : (K (F := F)).tcSt EH d 1 ⊢ (iprop(owes0 d ∗ (owes0 d -∗ (K (F := F)).tcSt EH d 1)) : sProp 𝕄) := by
  unfold SparseCore.Cfg.tcSt
  rw [Otc_one]
  iintro ⟨HO, Hrest⟩
  isplitl [HO]; · iexact HO
  iintro HO
  isplitl [HO]; · iexact HO
  iexact Hrest

/-- An operation of @main on the TensorCore's arrays touches no others. -/
theorem op_sub (op : HloOp τ sig (Elt F)) (h : op.bufs ⊆ StableHlo.tcRefs τ sig) : op.bufs ⊆ U := Pipeline.sub_ucRefs op h

/-- @main runs: from the arrays as launched to all of them at their final contents. -/
theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) U (V0 m d) from Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := op0) (S := U) (op_sub _ (StableHlo.reshape_bufs_sub _ _ _ _ _ _)) (V := V0 m d)) $$ [Hb Hheld]
  · isplitl [Hb] <;> iassumption
  iintro ⟨Hb, Hheld⟩
  rw [wp_ret]; imodintro
  iapply (wp_hlo_within 𝒱 (SparseCore.T d) none Set.univ (op := op1) (S := U) (op_sub _ (StableHlo.reshape_bufs_sub _ _ _ _ _ _)) (V := (op0 (F := F)).result (V0 m d))) $$ [Hb Hheld]
  · isplitl [Hb] <;> iassumption
  iintro ⟨Hb, Hheld⟩
  rw [wp_ret]; imodintro
  ihave Hh := (show held (T d) U ((op1 (F := F)).result ((op0 (F := F)).result (V0 m d))) ⊢ _ from Entails.of_eq (held_V2 m d)) $$ Hheld
  icases Hh with ⟨Hin, Hrest⟩
  iapply ((K (F := F)).wp_run (D (F := F)) 𝒱 (EH := EH) (P := P m) κ d 0) $$ [Hst Hin Hb Hrest Hts HG]
  isplitr; · iexact Hctx
  isplitl [Hst]; · iexact Hst
  isplitl [Hin]
  · iapply (Entails.of_eq (parts_all m d (V2 m d v2')).symm) $$ Hin
  iintro ⟨Hst, Hdn⟩
  ihave Hin := (show (bigSep Finset.univ fun c : Fin ((K (F := F)).nCore 0) => (P m).dn 0 d c) ⊢ _ from
    Entails.of_eq (parts_all m d (gath (V2 m d a0') (V2 m d v1')))) $$ Hdn
  ihave Hheld := (Entails.of_eq (held_V3 m d).symm) $$ [Hin Hrest]
  · isplitl [Hin] <;> iassumption
  iapply (wp_hlo_within 𝒱 (SparseCore.T d) none Set.univ (op := op3) (S := U) (op_sub _ (StableHlo.reshape_bufs_sub _ _ _ _ _ _)) (V := V3 m d)) $$ [Hb Hheld]
  · isplitl [Hb] <;> iassumption
  iintro ⟨Hb, Hheld⟩
  rw [wp_ret]; imodintro
  iapply (wp_hlo_within 𝒱 (SparseCore.T d) none Set.univ (op := op4) (S := U) (op_sub _ (StableHlo.reshape_bufs_sub _ _ _ _ _ _)) (V := (op3 (F := F)).result (V3 m d))) $$ [Hb Hheld]
  · isplitl [Hb] <;> iassumption
  iintro ⟨Hb, Hheld⟩
  rw [wp_ret]; imodintro
  iapply (wp_hlo_within 𝒱 (SparseCore.T d) none Set.univ (op := op5) (S := U) (op_sub _ (StableHlo.reshape_bufs_sub _ _ _ _ _ _)) (V := (op4 (F := F)).result ((op3 (F := F)).result (V3 m d)))) $$ [Hb Hheld]
  · isplitl [Hb] <;> iassumption
  iintro ⟨Hb, Hheld⟩
  rw [wp_ret]; imodintro
  iapply (wp_hlo_within 𝒱 (SparseCore.T d) none Set.univ (op := op6) (S := U) (op_sub _ (StableHlo.reshape_bufs_sub _ _ _ _ _ _)) (V := (op5 (F := F)).result ((op4 (F := F)).result ((op3 (F := F)).result (V3 m d))))) $$ [Hb Hheld]
  · isplitl [Hb] <;> iassumption
  iintro ⟨Hb, Hheld⟩
  rw [wp_ret]; imodintro
  iapply (wp_hlo_within 𝒱 (SparseCore.T d) none Set.univ (op := op7) (S := U) (op_sub _ (StableHlo.reshape_bufs_sub _ _ _ _ _ _)) (V := (op6 (F := F)).result ((op5 (F := F)).result ((op4 (F := F)).result ((op3 (F := F)).result (V3 m d)))))) $$ [Hb Hheld]
  · isplitl [Hb] <;> iassumption
  iintro ⟨Hb, Hheld⟩
  rw [wp_ret]; imodintro
  ihave Hub := (show held (T d) U ((op7 (F := F)).result ((op6 (F := F)).result ((op5 (F := F)).result ((op4 (F := F)).result ((op3 (F := F)).result (V3 m d)))))) ⊢ _ from Entails.of_eq (Pipeline.unscopedBufs_held (Ix := HIx 1) (Name := ℕ) (U := UU) (Lvl := ℕ) d (V8 m d)).symm) $$ Hheld
  ihave HO := (show (K (F := F)).tcSt EH d ((0 : Fin 1).val + 1) ⊢ _ from tcSt_owes d) $$ Hst
  icases HO with ⟨HO, Hback⟩
  ihave HL := ((K (F := F)).ctx_levAts (EH := EH) (P := P m) κ) $$ Hctx
  iapply (wp_tensor m d) $$ [Hb Hub HO HL HG Hback Hts]
  isplitl [Hback Hts]
  · iintro ⟨Hb, Hp⟩
    ihave Hp := (Entails.of_eq (regM_post m d)) $$ Hp
    icases Hp with ⟨Hub, HO⟩
    imodintro
    isplitl [Hback HO]; · iapply Hback $$ HO
    isplitl [Hub]
    · iapply (Entails.of_eq (Pipeline.unscopedBufs_held (Ix := HIx 1) (Name := ℕ) (U := UU) (Lvl := ℕ) d (V9 m d))) $$ Hub
    isplitl [Hb] <;> iassumption
  isplitl [Hb]; · iexact Hb
  isplitl [Hub HO]
  · iapply (Entails.of_eq (regM_pre m d).symm)
    isplitl [Hub] <;> iassumption
  isplitl [HL]; · iexact HL
  iexact HG

/-! ## The end -/

/-- Every array of the TensorCore is at its final contents. -/
def fq (d : Dev nD) (s' : Phys nD τ sig (Elt F)) : Prop := ∀ b ∈ U, s'.mem.mem (d, b) = V9 m d b

/-- Holding every array at its final contents, the memory has them. -/
theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V9 m d) U)
  isplitl [HSI] <;> iassumption

/-- The end: the TensorCore's arrays at their final contents, every semaphore at zero. -/
def QC : PUnit × MemSt nD τ sig (Elt F) → Prop := fun r => (∀ c : Dev nD, ∀ b ∈ U, r.2.mem (c, b) = V9 m c b) ∧ r.2.sem = fun _ => 0

/-- Every run of the program ends, with the TensorCore's arrays at their final contents and every semaphore at zero. -/
theorem run_main [∀ e, Nonempty (Elt F e)] (ρ : Dev nD → PrngReg) (hix : IxOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hix)
    (fun q _ => match q with | 0 => SparseCore.Cfg.VecSplit.of_plain (vecSplit m))
    m ρ main (fun d => Gd d) (FIN m) (u₀ (F := F)) (sep_elim_left.trans (hu₀ m)) (hmain m ρ) (fq m) (hfin m) (QC m) (fun _ h hz => ⟨h, hz⟩)

end Cert.KernelIdeal.Own

end
-- ==== Proof.IFinal.lean ====
/-
  What the run leaves in the program's arguments and in its result, under the precondition.
-/
module

public import proofs.«01_k».proof.Proof.IRun
public import proofs.«01_k».proof.Proof.Pre
public import proofs.«01_k».proof.Defs

@[expose] public section

noncomputable section

namespace Cert.KernelIdeal.Own

open Cert.KernelIdeal Cert.KernelIdeal.Gen

open Idealize.ShloMosaic
open Idealize.ShloMosaic.TcCoe

variable {F : FTy → Type} [FloatOps F] (m : (ℓ : Loc nD τ sig) → Buf (Elt F) ℓ)

/-- The arguments, which no operation writes. -/
abbrev IsArg (b : Ref sig .tc) : Prop :=
  b ≠ main_v0 ∧ b ≠ main_v1 ∧ b ≠ main_v2 ∧ b ≠ main_v3 ∧ b ≠ main_v4 ∧ b ≠ main_v5 ∧ b ≠ main_v6 ∧ b ≠ main_v7 ∧ b ≠ main_v8

/-- Before the gather the arguments are as they were. -/
theorem V2_arg (d : Dev nD) (b : Ref sig .tc) (h : IsArg b) : V2 m d b = m (d, b) := by
  rw [V2, StableHlo.reshape_result_ne _ _ _ _ _ _ _ h.2.1, StableHlo.reshape_result_ne _ _ _ _ _ _ _ h.1]; rfl

/-- After the gather an array other than the reshaped indices and the gathered rows is as it was. -/
theorem V3_arg (d : Dev nD) (b : Ref sig .tc) (h : IsArg b) : V3 m d b = m (d, b) :=
  (V3_ne m d fun e => h.2.2.1 (Proc.devRef_injective .tc e)).trans (V2_arg m d b h)

/-- Before the TensorCore's kernel the arguments are as they were. -/
theorem V8_arg (d : Dev nD) (b : Ref sig .tc) (h : IsArg b) : V8 m d b = m (d, b) := by
  rw [V8, StableHlo.reshape_result_ne _ _ _ _ _ _ _ h.2.2.2.2.2.2.2.1, StableHlo.reshape_result_ne _ _ _ _ _ _ _ h.2.2.2.2.2.2.1,
    StableHlo.reshape_result_ne _ _ _ _ _ _ _ h.2.2.2.2.2.1, StableHlo.reshape_result_ne _ _ _ _ _ _ _ h.2.2.2.2.1,
    StableHlo.reshape_result_ne _ _ _ _ _ _ _ h.2.2.2.1]
  exact V3_arg m d b h

/-- Each argument ends as it began. -/
theorem V9_arg (d : Dev nD) (b : Ref sig .tc) (h : IsArg b) : V9 m d b = m (d, b) :=
  (V9_ne m d b h.2.2.2.2.2.2.2.2).trans (V8_arg m d b h)

/-- The row numbers as the gather's tiles find them, 128 to a row. -/
abbrev ixs (x1 : S1024x96.Idx → BitVec 32) : S768x128.Idx → BitVec 32 :=
  shapeCast S768x128 (shapeCast S98304 x1 shapeCasts_S1024x96_S98304) shapeCasts_S98304_S768x128

/-- The index table is the second argument, 128 words to a row. -/
theorem V2_ix (d : Dev nD) : V2 m d v1' = ixs (m (d, main_arg1)) := by
  rw [V2, StableHlo.reshape_result, StableHlo.reshape_result]; rfl

/-- Row numbers below the table's length make the gather's indices sound. -/
theorem ixOK (h : ∀ (d : Dev nD) (j : S1024x96.Idx), ((m (d, main_arg1) : S1024x96.Idx → BitVec 32) j).toNat < 100000) : IxOK m := by
  intro d j
  rw [V2_ix]
  exact h d _

/-- The result as a function of the arguments. -/
def result (x0 : S100000x128.Idx → F .f32) (x1 : S1024x96.Idx → BitVec 32) (x2 : S128x32.Idx → F .f32) (x3 : S32.Idx → F .f32)
    (x4 : S32x4.Idx → F .f32) (x5 : S4.Idx → F .f32) (x6 : S512x128.Idx → F .f32) (x7 : S128.Idx → F .f32) : S1024x128.Idx → F .f32 :=
  outArr (shapeCast S1024x96x128 (gath x0 (ixs x1)) shapeCasts_S98304x128_S1024x96x128) x2 (shapeCast S1x32 x3 shapeCasts_S32_S1x32)
    x4 (shapeCast S1x4 x5 shapeCasts_S4_S1x4) (shapeCast S4x128x128 x6 shapeCasts_S512x128_S4x128x128)
    (shapeCast S1x128 x7 shapeCasts_S128_S1x128)

/-- The TensorCore's kernel finds the gathered rows, crystal by crystal. -/
theorem V8_v3 (d : Dev nD) : V8 m d main_v3
    = shapeCast S1024x96x128 (gath (m (d, main_arg0)) (ixs (m (d, main_arg1)))) shapeCasts_S98304x128_S1024x96x128 := by
  rw [V8, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    StableHlo.reshape_result, V3_eq, V2_ix, V2_arg m d main_arg0 (by decide)]
  rfl

/-- It finds the projection's weights, head by head. -/
theorem V8_v4 (d : Dev nD) : V8 m d main_v4 = shapeCast S4x128x128 (m (d, main_arg6)) shapeCasts_S512x128_S4x128x128 := by
  rw [V8, StableHlo.reshape_result_ne _ _ _ _ _ _ _ (by decide), StableHlo.reshape_result_ne _ _ _ _ _ _ _ (by decide),
    StableHlo.reshape_result_ne _ _ _ _ _ _ _ (by decide), StableHlo.reshape_result, StableHlo.reshape_result_ne _ _ _ _ _ _ _ (by decide),
    V3_arg m d main_arg6 (by decide)]
  rfl

/-- It finds the first layer's bias as a row. -/
theorem V8_v5 (d : Dev nD) : V8 m d main_v5 = shapeCast S1x32 (m (d, main_arg3)) shapeCasts_S32_S1x32 := by
  rw [V8, StableHlo.reshape_result_ne _ _ _ _ _ _ _ (by decide), StableHlo.reshape_result_ne _ _ _ _ _ _ _ (by decide),
    StableHlo.reshape_result, StableHlo.reshape_result_ne _ _ _ _ _ _ _ (by decide), StableHlo.reshape_result_ne _ _ _ _ _ _ _ (by decide),
    V3_arg m d main_arg3 (by decide)]
  rfl

/-- It finds the second layer's bias as a row. -/
theorem V8_v6 (d : Dev nD) : V8 m d main_v6 = shapeCast S1x4 (m (d, main_arg5)) shapeCasts_S4_S1x4 := by
  rw [V8, StableHlo.reshape_result_ne _ _ _ _ _ _ _ (by decide), StableHlo.reshape_result, StableHlo.reshape_result_ne _ _ _ _ _ _ _ (by decide),
    StableHlo.reshape_result_ne _ _ _ _ _ _ _ (by decide), StableHlo.reshape_result_ne _ _ _ _ _ _ _ (by decide),
    V3_arg m d main_arg5 (by decide)]
  rfl

/-- It finds the projection's bias as a row. -/
theorem V8_v7 (d : Dev nD) : V8 m d main_v7 = shapeCast S1x128 (m (d, main_arg7)) shapeCasts_S128_S1x128 := by
  rw [V8, StableHlo.reshape_result, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    V3_arg m d main_arg7 (by decide)]
  rfl

/-- The result array ends at `result` of the arguments. -/
theorem V9_result (d : Dev nD) : V9 m d v8' = result (m (d, main_arg0)) (m (d, main_arg1)) (m (d, main_arg2)) (m (d, main_arg3))
    (m (d, main_arg4)) (m (d, main_arg5)) (m (d, main_arg6)) (m (d, main_arg7)) := by
  rw [V9_eq]
  show outArr (V8 m d main_v3) (V8 m d main_arg2) (V8 m d main_v5) (V8 m d main_arg4) (V8 m d main_v6) (V8 m d main_v4) (V8 m d main_v7) = _
  rw [V8_v3, V8_v4, V8_v5, V8_v6, V8_v7, V8_arg m d main_arg2 (by decide), V8_arg m d main_arg4 (by decide)]
  rfl

/-- Every run from row numbers within the table ends with the result at its value, the arguments as they were and every
    semaphore at zero. -/
theorem run_args [∀ e, Nonempty (Elt F e)] (ρ : Dev nD → PrngReg)
    (h : ∀ (d : Dev nD) (j : S1024x96.Idx), ((m (d, main_arg1) : S1024x96.Idx → BitVec 32) j).toNat < 100000) :
    θ_run (Cert.KernelIdeal.defs (F := F)) (Cert.KernelIdeal.threads (F := F)) ⟨m, fun _ => 0, ρ⟩ fun r => (∀ c : Dev nD,
      r.2.mem (c, main_v8) = result (m (c, main_arg0)) (m (c, main_arg1)) (m (c, main_arg2)) (m (c, main_arg3))
        (m (c, main_arg4)) (m (c, main_arg5)) (m (c, main_arg6)) (m (c, main_arg7))
      ∧ ∀ b : Ref sig .tc, (b : DevRef τ sig) ∈ U → IsArg b → r.2.mem (c, b) = m (c, b)) ∧ r.2.sem = fun _ => 0 :=
  (θ_run Cert.KernelIdeal.defs _ _).mono (fun _ hr => ⟨fun c => ⟨(hr.1 c v8' (by decide)).trans (V9_result m c),
    fun b hb ha => (hr.1 c b hb).trans (V9_arg m c b ha)⟩, hr.2⟩) (run_main m ρ (ixOK m h))

end Cert.KernelIdeal.Own

end
-- ==== Proof.Frames.lean ====
/-
  The frames: of the kernel at bits and over the extended reals, and of the reference.
-/
module

public import proofs.«01_k».proof.Proof.KFinal
public import proofs.«01_k».proof.Proof.IFinal
public import proofs.«01_k».proof.Proof.Gen.ReferenceIdeal.Run
public import proofs.«01_k».proof.Proof.Gen.Pre_in_table

@[expose] public section

noncomputable section

namespace Cert.Own

open Idealize.ShloMosaic Idealize.SL.Sem

/-- The kernel at bits: it ends, its arguments as they were and every semaphore at zero. -/
theorem frame_kernel : Cert.quiescent_Kernel (hKernel := Cert.Kernel.Gen.facts) (hPre_in_table := Cert.Pre_in_table.Gen.facts) :=
  fun m g h => (θ_run Cert.Kernel.defs _ _).mono (fun _ hr => ⟨fun c =>
    ⟨(hr.1 c).2 Cert.Kernel.main_arg0 (by decide) (by decide), (hr.1 c).2 Cert.Kernel.main_arg1 (by decide) (by decide),
      (hr.1 c).2 Cert.Kernel.main_arg2 (by decide) (by decide), (hr.1 c).2 Cert.Kernel.main_arg3 (by decide) (by decide),
      (hr.1 c).2 Cert.Kernel.main_arg4 (by decide) (by decide), (hr.1 c).2 Cert.Kernel.main_arg5 (by decide) (by decide),
      (hr.1 c).2 Cert.Kernel.main_arg6 (by decide) (by decide), (hr.1 c).2 Cert.Kernel.main_arg7 (by decide) (by decide)⟩, hr.2⟩)
    (Cert.Kernel.Own.run_args m g fun d j => bound_of_pre _ _ _ _ _ _ _ _ (h d) j)

/-- The kernel over the extended reals: it ends, its arguments as they were and every semaphore at zero. -/
theorem frame_kernelIdeal : Cert.quiescent_KernelIdeal (hKernelIdeal := Cert.KernelIdeal.Gen.facts) (hPre_in_table := Cert.Pre_in_table.Gen.facts) :=
  fun m g h => (θ_run Cert.KernelIdeal.defs _ _).mono (fun _ hr => ⟨fun c =>
    ⟨(hr.1 c).2 Cert.KernelIdeal.main_arg0 (by decide) (by decide), (hr.1 c).2 Cert.KernelIdeal.main_arg1 (by decide) (by decide),
      (hr.1 c).2 Cert.KernelIdeal.main_arg2 (by decide) (by decide), (hr.1 c).2 Cert.KernelIdeal.main_arg3 (by decide) (by decide),
      (hr.1 c).2 Cert.KernelIdeal.main_arg4 (by decide) (by decide), (hr.1 c).2 Cert.KernelIdeal.main_arg5 (by decide) (by decide),
      (hr.1 c).2 Cert.KernelIdeal.main_arg6 (by decide) (by decide), (hr.1 c).2 Cert.KernelIdeal.main_arg7 (by decide) (by decide)⟩, hr.2⟩)
    (Cert.KernelIdeal.Own.run_args m g fun d j => bound_of_pre _ _ _ _ _ _ _ _ (h d) j)

/-- The reference ends, its arguments as they were; it has no semaphores. -/
theorem frame_reference : Cert.quiescent_ReferenceIdeal (hReferenceIdeal := Cert.ReferenceIdeal.Gen.facts) :=
  fun m g _ => (θ_run Cert.ReferenceIdeal.defs _ _).mono (fun r hr => ⟨fun c => (hr c).2, sem_eq_zero_of_no_sems (by decide) r.2⟩)
    (Cert.ReferenceIdeal.Value.run m g)

/-- The same under the precondition, which it does not need. -/
theorem frame_reference_pre : Cert.quiescent_ReferenceIdeal_pre_in_table (hReferenceIdeal := Cert.ReferenceIdeal.Gen.facts)
    (hPre_in_table := Cert.Pre_in_table.Gen.facts) :=
  fun m g _ => frame_reference m g trivial

end Cert.Own

end
-- ==== Proof.Model.lean ====
/-
  The mathematics over the extended reals that the kernel and the reference share: the two-layer perceptron of a row, the
  weights it gives the row's four heads, a crystal's pooled rows, and the projection.
-/
module

public import Idealize.ShloMosaic.Lib.Pointwise

@[expose] public section

noncomputable section

namespace Cert.Own

open Idealize.ShloMosaic

/-- `z · logistic z`. -/
def silu (z : EReal) : EReal := z * Ideal.logistic z

/-- Hidden unit `k` of a row. -/
def hidden (w1 : Fin 128 → Fin 32 → EReal) (b1 : Fin 32 → EReal) (x : Fin 128 → EReal) (k : Fin 32) : EReal :=
  silu ((∑ i, x i * w1 i k) + b1 k)

/-- A row's score for head `h`. -/
def score (w1 : Fin 128 → Fin 32 → EReal) (b1 : Fin 32 → EReal) (w2 : Fin 32 → Fin 4 → EReal) (b2 : Fin 4 → EReal)
    (x : Fin 128 → EReal) (h : Fin 4) : EReal :=
  (∑ k, hidden w1 b1 x k * w2 k h) + b2 h

/-- The largest of a family of four. -/
def top (l : Fin 4 → EReal) : EReal := Finset.univ.fold max ⊥ l

/-- The softmax of four scores. -/
def soft (l : Fin 4 → EReal) (h : Fin 4) : EReal :=
  Ideal.div (Ideal.exp (l h - top l)) (∑ k, Ideal.exp (l k - top l))

/-- The rows of a crystal, weighted by head `h`'s softmax and summed. -/
def pooled (sc : (Fin 128 → EReal) → Fin 4 → EReal) (rows : Fin 96 → Fin 128 → EReal) (h : Fin 4) (d : Fin 128) : EReal :=
  ∑ a, rows a d * soft (sc (rows a)) h

/-- Row `d` of head `h` in the projection. -/
abbrev hd (h : Fin 4) (d : Fin 128) : Fin 512 := ⟨h.val * 128 + d.val, by omega⟩

/-- A sum over the projection's rows, head by head. -/
theorem sum_heads (f : Fin 512 → EReal) : ∑ q, f q = ∑ h : Fin 4, ∑ d : Fin 128, f (hd h d) := by
  rw [← Fintype.sum_prod_type' fun h d => f (hd h d), ← (finProdFinEquiv (m := 4) (n := 128)).sum_comp]
  refine Finset.sum_congr rfl fun p _ => congrArg f (Fin.ext ?_)
  show p.2.val + 128 * p.1.val = p.1.val * 128 + p.2.val
  omega

/-- The pattern of the least f32 reads as `⊥`. -/
theorem ofBits_least : Ideal.ofBits .f32 0xFF800000#32 = ⊥ := by simp [Ideal.ofBits, Ideal.ieee]

end Cert.Own

end
-- ==== Proof.IPay.lean ====
/-
  The TensorCore kernel's payloads, read at an index over the extended reals.
-/
module

public import proofs.«01_k».proof.Proof.IBody
public import proofs.«01_k».proof.Proof.Model

@[expose] public section

noncomputable section

namespace Cert.KernelIdeal.Own

open Cert.KernelIdeal Cert.KernelIdeal.Gen Cert.Own

open Idealize.ShloMosaic

set_option maxHeartbeats 4000000 in
/-- The attention weights of a block: the softmax over the heads of the row's scores. -/
theorem pay3_apply (x : FVec Ideal S32x96x128 .f32) (w1 : FVec Ideal S128x32 .f32) (b1 : FVec Ideal S1x32 .f32)
    (w2 : FVec Ideal S32x4 .f32) (b2 : FVec Ideal S1x4 .f32) (b : Fin 32) (a : Fin 96) (h : Fin 4) :
    k1_pay3 (F := Ideal) x w1 b1 w2 b2 (ix3 b a h) = soft (score (fun i k => w1 (ix2 i k)) (fun k => b1 (ix2 0 k)) (fun k h => w2 (ix2 k h))
      (fun h => b2 (ix2 0 h)) fun d => x (ix3 b a d)) h := by
  pointwise [k1_pay3, k1_pay2]
  have e1 : ∀ p, (⟨(b.val * 96 + a.val) / 96, p⟩ : Fin 32) = b := fun p => Fin.ext (by show (b.val * 96 + a.val) / 96 = b.val; omega)
  have e2 : ∀ p, (⟨(b.val * 96 + a.val) % 96, p⟩ : Fin 96) = a := fun p => Fin.ext (by show (b.val * 96 + a.val) % 96 = a.val; omega)
  simp only [e1, e2]
  rw [show Ideal.ofBits FTy.f32 4286578688#32 = ⊥ from ofBits_least]
  rfl

/-- The first head's share of the projection: its weighted sum of the rows, times its weights. -/
theorem pay4_apply (x : FVec Ideal S32x96x128 .f32) (w1 : FVec Ideal S128x32 .f32) (b1 : FVec Ideal S1x32 .f32)
    (w2 : FVec Ideal S32x4 .f32) (b2 : FVec Ideal S1x4 .f32) (wp : FVec Ideal S1x128x128 .f32) (b : Fin 32) (j : Fin 128) :
    k1_pay4 (F := Ideal) x w1 b1 w2 b2 wp (ix2 b j)
      = ∑ d : Fin 128, (∑ a : Fin 96, x (ix3 b a d) * k1_pay3 (F := Ideal) x w1 b1 w2 b2 (ix3 b a 0)) * wp (ix3 0 d j) := by
  pointwise [k1_pay4, k1_pay2]

/-- A block's result: the first head's share, the other three heads' shares, the bias, and `silu`. -/
theorem pay1_apply (x : FVec Ideal S32x96x128 .f32) (s : FVec Ideal S32x96x4 .f32) (v : FVec Ideal S32x128 .f32)
    (u1 u2 u3 : FVec Ideal S1x128x128 .f32) (bv : FVec Ideal S1x128 .f32) (b : Fin 32) (j : Fin 128) :
    k1_pay1 (F := Ideal) x s v u1 u2 u3 bv (ix2 b j)
      = silu (v (ix2 b j) + (∑ d : Fin 128, (∑ a : Fin 96, x (ix3 b a d) * s (ix3 b a 1)) * u1 (ix3 0 d j))
        + (∑ d : Fin 128, (∑ a : Fin 96, x (ix3 b a d) * s (ix3 b a 2)) * u2 (ix3 0 d j))
        + (∑ d : Fin 128, (∑ a : Fin 96, x (ix3 b a d) * s (ix3 b a 3)) * u3 (ix3 0 d j)) + bv (ix2 0 j)) := by
  pointwise [k1_pay1]
  rfl

end Cert.KernelIdeal.Own

end
-- ==== Proof.IValue.lean ====
/-
  The kernel's result at an index, over the extended reals, in terms of the arguments.
-/
module

public import proofs.«01_k».proof.Proof.IPay
public import proofs.«01_k».proof.Proof.IFinal

@[expose] public section

noncomputable section

namespace Cert.KernelIdeal.Own

open Cert.KernelIdeal Cert.KernelIdeal.Gen Cert.Own

open Idealize.ShloMosaic

/-- One head's share of a projected crystal. -/
abbrev part1 (sc : (Fin 128 → EReal) → Fin 4 → EReal) (rows : Fin 96 → Fin 128 → EReal) (w : Fin 128 → EReal) (h : Fin 4) : EReal :=
  ∑ d, pooled sc rows h d * w d

/-- The scores of a block's rows. -/
abbrev sc2 (w1 : FVec Ideal S128x32 .f32) (b1 : FVec Ideal S1x32 .f32) (w2 : FVec Ideal S32x4 .f32) (b2 : FVec Ideal S1x4 .f32) :
    (Fin 128 → EReal) → Fin 4 → EReal :=
  score (fun i k => w1 (ix2 i k)) (fun k => b1 (ix2 0 k)) (fun k h => w2 (ix2 k h)) (fun h => b2 (ix2 0 h))

/-- Element `(d, j)` of head `h`'s weights, as the kernel loads them. -/
theorem headIdx (h : Fin 4) (inb : ∀ a, (![h.val, 0, 0] : Fin 3 → Nat) a + S1x128x128.size a ≤ S4x128x128.size a) (d j : Fin 128) :
    (Rect.unit (s := S4x128x128) ![h.val, 0, 0] S1x128x128.size inb).idx (ix3 0 d j) = (ix3 h d j : S4x128x128.Idx) := by
  funext a
  apply Fin.ext
  match a with
  | 0 => exact Nat.add_zero h.val
  | 1 => show 0 + 1 * d.val = d.val; omega
  | 2 => show 0 + 1 * j.val = j.val; omega

/-- A block's result at an index: the four heads' shares, the bias, and `silu`. -/
theorem outBlk_apply (x : FVec Ideal S32x96x128 .f32) (w1 : FVec Ideal S128x32 .f32) (b1 : FVec Ideal S1x32 .f32)
    (w2 : FVec Ideal S32x4 .f32) (b2 : FVec Ideal S1x4 .f32) (wv : FVec Ideal S4x128x128 .f32) (bv : FVec Ideal S1x128 .f32)
    (b : Fin 32) (j : Fin 128) :
    outBlk (F := Ideal) x w1 b1 w2 b2 wv bv (ix2 b j)
      = silu (part1 (sc2 w1 b1 w2 b2) (fun a d => x (ix3 b a d)) (fun d => wv (ix3 0 d j)) 0
        + part1 (sc2 w1 b1 w2 b2) (fun a d => x (ix3 b a d)) (fun d => wv (ix3 1 d j)) 1
        + part1 (sc2 w1 b1 w2 b2) (fun a d => x (ix3 b a d)) (fun d => wv (ix3 2 d j)) 2
        + part1 (sc2 w1 b1 w2 b2) (fun a d => x (ix3 b a d)) (fun d => wv (ix3 3 d j)) 3 + bv (ix2 0 j)) := by
  have hx : k1_pay2 (F := Ideal) x = x := by funext i; pointwise [k1_pay2]
  rw [outBlk, pay1_apply, pay4_apply, hx]
  have e0 : ∀ d, wv ((Rect.unit (s := S4x128x128) ![0, 0, 0] S1x128x128.size inb_S4x128x128_S1x128x128_0_0_0).idx (ix3 0 d j)) = wv (ix3 0 d j) :=
    fun d => congrArg wv (headIdx 0 _ d j)
  have e1 : ∀ d, wv ((Rect.unit (s := S4x128x128) ![1, 0, 0] S1x128x128.size inb_S4x128x128_S1x128x128_1_0_0).idx (ix3 0 d j)) = wv (ix3 1 d j) :=
    fun d => congrArg wv (headIdx 1 _ d j)
  have e2 : ∀ d, wv ((Rect.unit (s := S4x128x128) ![2, 0, 0] S1x128x128.size inb_S4x128x128_S1x128x128_2_0_0).idx (ix3 0 d j)) = wv (ix3 2 d j) :=
    fun d => congrArg wv (headIdx 2 _ d j)
  have e3 : ∀ d, wv ((Rect.unit (s := S4x128x128) ![3, 0, 0] S1x128x128.size inb_S4x128x128_S1x128x128_3_0_0).idx (ix3 0 d j)) = wv (ix3 3 d j) :=
    fun d => congrArg wv (headIdx 3 _ d j)
  simp only [pay3_apply, e0, e1, e2, e3]
  rfl

/-- The rows of crystal `b`, as the table holds them. -/
abbrev rowsOf (x0 : S100000x128.Idx → EReal) (x1 : S1024x96.Idx → BitVec 32) (b : Fin 1024) : Fin 96 → Fin 128 → EReal :=
  fun a d => x0 (ix2 (clip (x1 (ix2 b a))) d)

/-- Row `a` of crystal `b` of the gathered rows is the table row that the crystal names there. -/
theorem gathered_apply (x0 : S100000x128.Idx → EReal) (x1 : S1024x96.Idx → BitVec 32) (b : Fin 1024) (a : Fin 96) (d : Fin 128) :
    shapeCast S1024x96x128 (gath (F := Ideal) x0 (ixs x1)) shapeCasts_S98304x128_S1024x96x128 (ix3 b a d) = rowsOf x0 x1 b a d := by
  pointwise [gath, ixs, rowsOf]

/-- The scores of the program's arguments. -/
abbrev scOf (x2 : S128x32.Idx → EReal) (x3 : S32.Idx → EReal) (x4 : S32x4.Idx → EReal) (x5 : S4.Idx → EReal) :
    (Fin 128 → EReal) → Fin 4 → EReal :=
  score (fun i k => x2 (ix2 i k)) (fun k => x3 (ix1 k)) (fun k h => x4 (ix2 k h)) (fun h => x5 (ix1 h))

/-- One head's share of a projected crystal, from the arguments. -/
abbrev share (x0 : S100000x128.Idx → EReal) (x1 : S1024x96.Idx → BitVec 32) (x2 : S128x32.Idx → EReal) (x3 : S32.Idx → EReal)
    (x4 : S32x4.Idx → EReal) (x5 : S4.Idx → EReal) (x6 : S512x128.Idx → EReal) (b : Fin 1024) (j : Fin 128) (h : Fin 4) : EReal :=
  part1 (scOf x2 x3 x4 x5) (rowsOf x0 x1 b) (fun d => x6 (ix2 (hd h d) j)) h

/-- The result at an index: the four heads' shares of the crystal, the bias, and `silu`. -/
theorem result_apply (x0 : S100000x128.Idx → EReal) (x1 : S1024x96.Idx → BitVec 32) (x2 : S128x32.Idx → EReal) (x3 : S32.Idx → EReal)
    (x4 : S32x4.Idx → EReal) (x5 : S4.Idx → EReal) (x6 : S512x128.Idx → EReal) (x7 : S128.Idx → EReal) (b : Fin 1024) (j : Fin 128) :
    result (F := Ideal) x0 x1 x2 x3 x4 x5 x6 x7 (ix2 b j)
      = silu (share x0 x1 x2 x3 x4 x5 x6 b j 0 + share x0 x1 x2 x3 x4 x5 x6 b j 1 + share x0 x1 x2 x3 x4 x5 x6 b j 2
        + share x0 x1 x2 x3 x4 x5 x6 b j 3 + x7 (ix1 j)) := by
  have hw1 : ∀ k, shapeCast S1x32 x3 shapeCasts_S32_S1x32 (ix2 0 k) = x3 (ix1 k) := fun k => by pointwise
  have hw2 : ∀ k, shapeCast S1x4 x5 shapeCasts_S4_S1x4 (ix2 0 k) = x5 (ix1 k) := fun k => by pointwise
  have hb : ∀ k, shapeCast S1x128 x7 shapeCasts_S128_S1x128 (ix2 0 k) = x7 (ix1 k) := fun k => by pointwise
  have hp : ∀ (h : Fin 4) (d : Fin 128), shapeCast S4x128x128 x6 shapeCasts_S512x128_S4x128x128 (ix3 h d j) = x6 (ix2 (hd h d) j) := fun h d => by
    pointwise
  have hr : ∀ a d, shapeCast S1024x96x128 (gath (F := Ideal) x0 (ixs x1)) shapeCasts_S98304x128_S1024x96x128
      (ix3 (⟨32 * (b.val / 32) + b.val % 32, by omega⟩ : Fin 1024) a d) = rowsOf x0 x1 b a d := fun a d => by
    rw [gathered_apply, show (⟨32 * (b.val / 32) + b.val % 32, by omega⟩ : Fin 1024) = b from Fin.ext (Nat.div_add_mod b.val 32)]
  refine (outBlk_apply _ _ _ _ _ _ _ (⟨b.val % 32, Nat.mod_lt _ (by decide)⟩ : Fin 32) j).trans ?_
  have hs : sc2 x2 (shapeCast S1x32 x3 shapeCasts_S32_S1x32) x4 (shapeCast S1x4 x5 shapeCasts_S4_S1x4) = scOf x2 x3 x4 x5 := by
    simp only [sc2, scOf, hw1, hw2]
  have hrow := funext fun a => funext fun d => hr a d
  rw [hs, hb]
  simp only [hp]
  exact congrArg (fun rows => silu (part1 (scOf x2 x3 x4 x5) rows (fun d => x6 (ix2 (hd 0 d) j)) 0
    + part1 (scOf x2 x3 x4 x5) rows (fun d => x6 (ix2 (hd 1 d) j)) 1 + part1 (scOf x2 x3 x4 x5) rows (fun d => x6 (ix2 (hd 2 d) j)) 2
    + part1 (scOf x2 x3 x4 x5) rows (fun d => x6 (ix2 (hd 3 d) j)) 3 + x7 (ix1 j))) hrow

end Cert.KernelIdeal.Own

end
-- ==== Proof.RValue.lean ====
/-
  The reference's result at an index, over the extended reals, where every row number lies within the table.
-/
module

public import proofs.«01_k».proof.Proof.Model
public import proofs.«01_k».proof.Proof.Gen.ReferenceIdeal.Run
public import Idealize.ShloMosaic.Lib.StableHlo.Predicate
public import Idealize.ShloMosaic.Lib.ReduceAll

@[expose] public section

noncomputable section

namespace Cert.ReferenceIdeal.Own

open Cert.ReferenceIdeal Cert.ReferenceIdeal.Gen Cert.Own

open Idealize.ShloMosaic

/-! ## The reference's stages -/

variable (x0 : FVec Ideal S100000x128 .f32) (x1 : IVec S1024x96 32) (x2 : FVec Ideal S128x32 .f32) (x3 : FVec Ideal S32 .f32)
  (x4 : FVec Ideal S32x4 .f32) (x5 : FVec Ideal S4 .f32) (x6 : FVec Ideal S512x128 .f32) (x7 : FVec Ideal S128 .f32)

/-- The first layer of every table row, before `silu`. -/
def pre1 : FVec Ideal S100000x32 .f32 :=
  addf (Host.dotGeneral dot_S100000x128_S128x32_S100000x32_1_0_0_1_n_n none x0 x2)
    (broadcastInDim S100000x32 ![0, 1] bcast_S1x32_S100000x32_0_1 (broadcastInDim S1x32 ![1] bcast_S32_S1x32_1 x3))

/-- The scores of every table row. -/
def scores : FVec Ideal S100000x4 .f32 :=
  addf (Host.dotGeneral dot_S100000x32_S32x4_S100000x4_1_0_0_1_n_n none
      (mulf (pre1 x0 x2 x3) (Host.divf (broadcastInDim S100000x32 ![] bcast_S_S100000x32 (constant S_ .f32 0x3F800000#32))
        (addf (broadcastInDim S100000x32 ![] bcast_S_S100000x32 (constant S_ .f32 0x3F800000#32)) (Host.exp (Host.negf (pre1 x0 x2 x3)))))) x4)
    (broadcastInDim S100000x4 ![0, 1] bcast_S1x4_S100000x4_0_1 (broadcastInDim S1x4 ![1] bcast_S4_S1x4_1 x5))

/-- The row numbers, a negative one counted from the table's end, as a column. -/
def col : IVec S1024x96x1 32 :=
  broadcastInDim S1024x96x1 ![0, 1] bcast_S1024x96_S1024x96x1_0_1
    (select (cmpi .slt x1 (broadcastInDim S1024x96 ![] bcast_S_S1024x96 (constantI S_ 32 0#32)))
      (addi x1 (broadcastInDim S1024x96 ![] bcast_S_S1024x96 (constantI S_ 32 100000#32))) x1)

/-- Which of them lie within the table. -/
def inside : IVec S1024x96 1 :=
  Host.reduce IntOp.andi (andi (cmpi .sge (col x1) (broadcastInDim S1024x96x1 ![] bcast_S_S1024x96x1 (constantI S_ 32 0#32)))
      (cmpi .sle (col x1) (broadcastInDim S1024x96x1 ![0, 1, 2] bcast_S1x1x1_S1024x96x1_0_1_2
        (broadcastInDim S1x1x1 ![2] bcast_S1_S1x1x1_2 (constantI S1 32 99999#32)))))
    (constantI S_ 1 1#1) reducesTo_S1024x96x1_S1024x96_d2 h_S_

/-- The scores of the rows taken. -/
def taken4 (w : FVec Ideal S100000x4 .f32) : FVec Ideal S1024x96x4 .f32 :=
  select (broadcastInDim S1024x96x4 ![0, 1] bcast_S1024x96_S1024x96x4_0_1 (inside x1))
    (Host.gather gather_S100000x4_S1024x96x1_S1024x96x4_2_0_n_n_0_2_14 w (col x1))
    (broadcastInDim S1024x96x4 ![] bcast_S_S1024x96x4 (constant S_ .f32 0x7FC00000#32))

/-- The rows taken. -/
def taken128 : FVec Ideal S1024x96x128 .f32 :=
  select (broadcastInDim S1024x96x128 ![0, 1] bcast_S1024x96_S1024x96x128_0_1 (inside x1))
    (Host.gather gather_S100000x128_S1024x96x1_S1024x96x128_2_0_n_n_0_2_1128 x0 (col x1))
    (broadcastInDim S1024x96x128 ![] bcast_S_S1024x96x128 (constant S_ .f32 0x7FC00000#32))

/-- The exponentials of the scores, each less its row's largest. -/
def exps (l : FVec Ideal S1024x96x4 .f32) : FVec Ideal S1024x96x4 .f32 :=
  Host.exp (subf l (broadcastInDim S1024x96x4 ![0, 1, 2] bcast_S1024x96x1_S1024x96x4_0_1_2
    (broadcastInDim S1024x96x1 ![0, 1] bcast_S1024x96_S1024x96x1_0_1
      (maximumf (broadcastInDim S1024x96 ![] bcast_S_S1024x96 (constant S_ .f32 0xFF800000#32))
        (Host.reduce FloatOps.maximumf l (constant S_ .f32 0xFF800000#32) reducesTo_S1024x96x4_S1024x96_d2 h_S_)))))

/-- Exponentials over their sums. -/
def shares (e : FVec Ideal S1024x96x4 .f32) : FVec Ideal S1024x96x4 .f32 :=
  Host.divf e (broadcastInDim S1024x96x4 ![0, 1, 2] bcast_S1024x96x1_S1024x96x4_0_1_2
    (broadcastInDim S1024x96x1 ![0, 1] bcast_S1024x96_S1024x96x1_0_1
      (Host.reduceAdd e (constant S_ .f32 0x00000000#32) reducesTo_S1024x96x4_S1024x96_d2 h_S_)))

/-- The projection of weighted rows, before `silu`. -/
def proj (cw : FVec Ideal S1024x96x4 .f32) (caf : FVec Ideal S1024x96x128 .f32) : FVec Ideal S1024x128 .f32 :=
  addf (Host.dotGeneral dot_S1024x512_S512x128_S1024x128_1_0_0_1_n_n none
      (shapeCast _ (Host.dotGeneral dot_S1024x96x4_S1024x96x128_S1024x4x128_1_1_2_2_0_0 none cw caf) shapeCasts_S1024x4x128_S1024x512) x6)
    (broadcastInDim S1024x128 ![0, 1] bcast_S1x128_S1024x128_0_1 (broadcastInDim S1x128 ![1] bcast_S128_S1x128_1 x7))

/-- `silu` of the whole. -/
def act (z : FVec Ideal S1024x128 .f32) : FVec Ideal S1024x128 .f32 :=
  mulf z (Host.divf (broadcastInDim S1024x128 ![] bcast_S_S1024x128 (constant S_ .f32 0x3F800000#32))
    (addf (broadcastInDim S1024x128 ![] bcast_S_S1024x128 (constant S_ .f32 0x3F800000#32)) (Host.exp (Host.negf z))))

/-- The stages in their order. -/
def whole : FVec Ideal S1024x128 .f32 :=
  act (proj x6 x7 (shares (exps (taken4 x1 (scores x0 x2 x3 x4 x5)))) (taken128 x0 x1))

set_option maxRecDepth 20000 in
/-- The run's result is the stages in their order. -/
theorem res_eq (m : (ℓ : Loc nD τ sig) → Buf (Elt Ideal) ℓ) (c : Dev nD) :
    Value.res_main_v40 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-! ## Each stage at an index -/

/-- `silu` of the whole, at an index. -/
theorem act_apply (z : FVec Ideal S1024x128 .f32) (b : Fin 1024) (j : Fin 128) : act z (ix2 b j) = silu (z (ix2 b j)) := by
  pointwise [act]
  rfl

/-- A table row's score for a head. -/
theorem scores_apply (r : Fin 100000) (h : Fin 4) :
    scores x0 x2 x3 x4 x5 (ix2 r h) = score (fun i k => x2 (ix2 i k)) (fun k => x3 (ix1 k)) (fun k h => x4 (ix2 k h)) (fun h => x5 (ix1 h))
      (fun d => x0 (ix2 r d)) h := by
  pointwise [scores, pre1]
  rfl

/-- A row's share for a head is the softmax of its scores. -/
theorem shares_apply (l : FVec Ideal S1024x96x4 .f32) (b : Fin 1024) (a : Fin 96) (h : Fin 4) :
    shares (exps l) (ix3 b a h) = soft (fun k => l (ix3 b a k)) h := by
  pointwise [shares, exps]
  rw [show Ideal.ofBits FTy.f32 4286578688#32 = ⊥ from ofBits_least]
  simp only [bot_sup_eq]
  rfl

/-- The projection at an index, head by head. -/
theorem proj_apply (cw : FVec Ideal S1024x96x4 .f32) (caf : FVec Ideal S1024x96x128 .f32) (b : Fin 1024) (j : Fin 128) :
    proj x6 x7 cw caf (ix2 b j)
      = (∑ h : Fin 4, ∑ d : Fin 128, (∑ a, caf (ix3 b a d) * cw (ix3 b a h)) * x6 (ix2 (hd h d) j)) + x7 (ix1 j) := by
  pointwise [proj]
  refine congrArg (· + x7 (ix1 j)) ?_
  rw [sum_heads]
  refine Finset.sum_congr rfl fun h _ => Finset.sum_congr rfl fun d _ => ?_
  have e1 : ∀ p, (⟨(hd h d).val / 128, p⟩ : Fin 4) = h := fun p => Fin.ext (by show (h.val * 128 + d.val) / 128 = h.val; omega)
  have e2 : ∀ p, (⟨(hd h d).val % 128, p⟩ : Fin 128) = d := fun p => Fin.ext (by show (h.val * 128 + d.val) % 128 = d.val; omega)
  rw [e1, e2]
  simp only [mul_comm]

/-- A row number within the table is not negative. -/
theorem toInt_small {w : BitVec 32} (h : w.toNat < 100000) : w.toInt = w.toNat := BitVec.toInt_eq_toNat_of_lt (by omega)

/-- A row number within the table is left as it is. -/
theorem col_apply (h : ∀ j, (x1 j).toNat < 100000) (b : Fin 1024) (a : Fin 96) : col x1 (ix3 b a 0) = x1 (ix2 b a) := by
  pointwise [col]
  have e : IntOp.cmpi CmpIPredicate.slt (x1 (ix2 b a)) 0#32 = 0#1 := by
    have hs : (x1 (ix2 b a)).slt 0#32 = false := by
      rw [BitVec.slt_eq_decide, toInt_small (h _)]
      exact decide_eq_false (by show ¬ ((x1 (ix2 b a)).toNat : Int) < 0; omega)
    simp only [IntOp.cmpi, hs]; rfl
  rw [e]; rfl

/-- Every row number within the table passes the check. -/
theorem inside_apply (h : ∀ j, (x1 j).toNat < 100000) (b : Fin 1024) (a : Fin 96) : inside x1 (ix2 b a) = 1#1 := by
  have hc : ∀ x : Fin 1, IntOp.andi (IntOp.cmpi CmpIPredicate.sge (col x1 (ix3 b a x)) 0#32)
      (IntOp.cmpi CmpIPredicate.sle (col x1 (ix3 b a x)) 99999#32) = 1#1 := fun x => by
    rw [Subsingleton.elim x 0, col_apply x1 h]
    have h1 : (0#32 : BitVec 32).sle (x1 (ix2 b a)) = true := by
      rw [BitVec.sle_eq_decide, toInt_small (h _)]
      exact decide_eq_true (by show (0 : Int) ≤ ((x1 (ix2 b a)).toNat : Int); omega)
    have h2 : (x1 (ix2 b a)).sle 99999#32 = true := by
      have := h (ix2 b a)
      rw [BitVec.sle_eq_decide, toInt_small (h _)]
      exact decide_eq_true (by show ((x1 (ix2 b a)).toNat : Int) ≤ 99999; omega)
    simp only [IntOp.cmpi, h1, h2]; rfl
  pointwise [inside]
  simp only [hc]
  rfl

/-- The table row that a word names, the last for a word beyond the table. -/
def rowNo (w : BitVec 32) : Fin 100000 := ⟨min w.toNat 99999, by omega⟩

/-- The gather of scores at an index: the start index read as a signed word and held within the table. -/
theorem gather4_apply (w : FVec Ideal S100000x4 .f32) (ix : IVec S1024x96x1 32) (b : Fin 1024) (a : Fin 96) (h : Fin 4) :
    Host.gather gather_S100000x4_S1024x96x1_S1024x96x4_2_0_n_n_0_2_14 w ix (ix3 b a h)
      = w (ix2 (⟨min (ix (ix3 b a 0)).toInt.toNat 99999, by omega⟩ : Fin 100000) h) := by
  have e : GatherDims.siIdx gather_S100000x4_S1024x96x1_S1024x96x4_2_0_n_n_0_2_14 (ix3 b a h) ⟨0, by decide⟩ = ix3 b a 0 :=
    funext fun c => match c with | 0 => rfl | 1 => rfl | 2 => rfl
  refine congrArg w (funext fun ax => Fin.ext ?_)
  match ax with
  | 0 => exact congrArg (fun k => min (ix k).toInt.toNat 99999) e
  | 1 => exact Nat.zero_add h.val

/-- The gather of rows at an index, likewise. -/
theorem gather128_apply (w : FVec Ideal S100000x128 .f32) (ix : IVec S1024x96x1 32) (b : Fin 1024) (a : Fin 96) (d : Fin 128) :
    Host.gather gather_S100000x128_S1024x96x1_S1024x96x128_2_0_n_n_0_2_1128 w ix (ix3 b a d)
      = w (ix2 (⟨min (ix (ix3 b a 0)).toInt.toNat 99999, by omega⟩ : Fin 100000) d) := by
  have e : GatherDims.siIdx gather_S100000x128_S1024x96x1_S1024x96x128_2_0_n_n_0_2_1128 (ix3 b a d) ⟨0, by decide⟩ = ix3 b a 0 :=
    funext fun c => match c with | 0 => rfl | 1 => rfl | 2 => rfl
  refine congrArg w (funext fun ax => Fin.ext ?_)
  match ax with
  | 0 => exact congrArg (fun k => min (ix k).toInt.toNat 99999) e
  | 1 => exact Nat.zero_add d.val

/-- The gathers' start index at a place is the row number there. -/
theorem start_eq (h : ∀ j, (x1 j).toNat < 100000) (b : Fin 1024) (a : Fin 96) (p) :
    (⟨min (col x1 (ix3 b a 0)).toInt.toNat 99999, p⟩ : Fin 100000) = rowNo (x1 (ix2 b a)) :=
  Fin.ext (by
    show min (col x1 (ix3 b a 0)).toInt.toNat 99999 = min (x1 (ix2 b a)).toNat 99999
    rw [col_apply x1 h, toInt_small (h _), Int.toNat_natCast])

/-- The scores taken, where every row number lies within the table. -/
theorem taken4_apply (h : ∀ j, (x1 j).toNat < 100000) (w : FVec Ideal S100000x4 .f32) (b : Fin 1024) (a : Fin 96) (k : Fin 4) :
    taken4 x1 w (ix3 b a k) = w (ix2 (rowNo (x1 (ix2 b a))) k) := by
  pointwise [taken4]
  rw [inside_apply x1 h, gather4_apply, start_eq x1 h]
  rfl

/-- The rows taken, likewise. -/
theorem taken128_apply (h : ∀ j, (x1 j).toNat < 100000) (b : Fin 1024) (a : Fin 96) (d : Fin 128) :
    taken128 x0 x1 (ix3 b a d) = x0 (ix2 (rowNo (x1 (ix2 b a))) d) := by
  pointwise [taken128]
  rw [inside_apply x1 h, gather128_apply, start_eq x1 h]
  rfl

/-- The reference at an index: the heads' shares of the crystal's pooled rows, the bias, and `silu`. -/
theorem whole_apply (h : ∀ j, (x1 j).toNat < 100000) (b : Fin 1024) (j : Fin 128) :
    whole x0 x1 x2 x3 x4 x5 x6 x7 (ix2 b j)
      = silu ((∑ k : Fin 4, ∑ d : Fin 128, pooled (score (fun i k => x2 (ix2 i k)) (fun k => x3 (ix1 k)) (fun k h => x4 (ix2 k h))
          (fun h => x5 (ix1 h))) (fun a d => x0 (ix2 (rowNo (x1 (ix2 b a))) d)) k d * x6 (ix2 (hd k d) j)) + x7 (ix1 j)) := by
  rw [whole, act_apply, proj_apply]
  simp only [shares_apply, taken4_apply x1 h, taken128_apply x0 x1 h, scores_apply]
  rfl

end Cert.ReferenceIdeal.Own

end
-- ==== Proof.Equal.lean ====
/-
  The kernel's result is the reference's, over the extended reals, where every row number lies within the table; and with it
  the claim that both programs leave the same array.
-/
module

public import proofs.«01_k».proof.Proof.IValue
public import proofs.«01_k».proof.Proof.RValue
public import proofs.«01_k».proof.Proof.Gen.Pre_in_table

@[expose] public section

noncomputable section

namespace Cert.Own

open Idealize.ShloMosaic Idealize.ShloMosaic.TcCoe Idealize.SL.Sem

open Cert.KernelIdeal (S100000x128 S1024x96 S128x32 S32 S32x4 S4 S512x128 S128 S1024x128) in
/-- The two results agree at every index. -/
theorem result_eq (x0 : S100000x128.Idx → EReal) (x1 : S1024x96.Idx → BitVec 32) (x2 : S128x32.Idx → EReal) (x3 : S32.Idx → EReal)
    (x4 : S32x4.Idx → EReal) (x5 : S4.Idx → EReal) (x6 : S512x128.Idx → EReal) (x7 : S128.Idx → EReal)
    (h : ∀ j, (x1 j).toNat < 100000) :
    Cert.ReferenceIdeal.Own.whole x0 x1 x2 x3 x4 x5 x6 x7 = Cert.KernelIdeal.Own.result (F := Ideal) x0 x1 x2 x3 x4 x5 x6 x7 := by
  funext r
  obtain ⟨b, j, rfl⟩ : ∃ (b : Fin 1024) (j : Fin 128), r = ix2 b j := ⟨r 0, r 1, funext fun a => match a with | 0 => rfl | 1 => rfl⟩
  rw [Cert.KernelIdeal.Own.result_apply]
  refine (Cert.ReferenceIdeal.Own.whole_apply x0 x1 x2 x3 x4 x5 x6 x7 h b j).trans ?_
  rw [Fin.sum_univ_four]
  rfl

/-- From arguments that agree, with row numbers within the table, both programs end with the same result and their
    arguments as they were. -/
theorem same_result : Cert.algebraic_KernelIdeal_ReferenceIdeal (hKernelIdeal := Cert.KernelIdeal.Gen.facts)
    (hReferenceIdeal := Cert.ReferenceIdeal.Gen.facts) (hPre_in_table := Cert.Pre_in_table.Gen.facts) := by
  intro m g m' g' hp hag
  have hb : ∀ (d : Dev Cert.KernelIdeal.nD) (j : Cert.KernelIdeal.S1024x96.Idx),
      ((m (d, Cert.KernelIdeal.main_arg1) : Cert.KernelIdeal.S1024x96.Idx → BitVec 32) j).toNat < 100000 :=
    fun d j => bound_of_pre _ _ _ _ _ _ _ _ (hp d) j
  refine ⟨_, (θ_run Cert.KernelIdeal.defs _ _).mono (fun _ hr c => ⟨(hr.1 c).1,
      (hr.1 c).2 Cert.KernelIdeal.main_arg0 (by decide) (by decide), (hr.1 c).2 Cert.KernelIdeal.main_arg1 (by decide) (by decide),
      (hr.1 c).2 Cert.KernelIdeal.main_arg2 (by decide) (by decide), (hr.1 c).2 Cert.KernelIdeal.main_arg3 (by decide) (by decide),
      (hr.1 c).2 Cert.KernelIdeal.main_arg4 (by decide) (by decide), (hr.1 c).2 Cert.KernelIdeal.main_arg5 (by decide) (by decide),
      (hr.1 c).2 Cert.KernelIdeal.main_arg6 (by decide) (by decide), (hr.1 c).2 Cert.KernelIdeal.main_arg7 (by decide) (by decide)⟩)
    (Cert.KernelIdeal.Own.run_args m g hb), ?_⟩
  refine (θ_run Cert.ReferenceIdeal.defs _ _).mono (fun _ hr c => ⟨(hr c).1.trans ?_, (hr c).2⟩) (Cert.ReferenceIdeal.Value.run m' g')
  obtain ⟨h0, h1, h2, h3, h4, h5, h6, h7⟩ := hag c
  rw [Cert.ReferenceIdeal.Own.res_eq, h0, h1, h2, h3, h4, h5, h6, h7]
  exact result_eq _ _ _ _ _ _ _ _ (hb c)

end Cert.Own

end
-- ==== Proof.lean ====
/- The five claims of the kernel, put together. -/
module

public import proofs.«01_k».proof.Proof.Frames
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_table.Gen.facts,
    Cert.Own.frame_kernel, Cert.Own.frame_kernelIdeal, Cert.Own.frame_reference, Cert.Own.frame_reference_pre, trivial,
    Cert.Own.same_result⟩

end Cert.Proof

end
